-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_are_finite [hPre_logits_are_finite : Cert.Pre_logits_are_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_logits_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_logits_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_logits_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_are_finite [hPre_logits_are_finite : Cert.Pre_logits_are_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_logits_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_logits_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_logits_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_projection_is_finite [hPre_projection_is_finite : Cert.Pre_projection_is_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_projection_is_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_projection_is_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_projection_is_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_projection_is_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_projection_is_finite [hPre_projection_is_finite : Cert.Pre_projection_is_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_projection_is_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_projection_is_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_projection_is_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_projection_is_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_feed_forward_is_finite [hPre_feed_forward_is_finite : Cert.Pre_feed_forward_is_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_feed_forward_is_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15))).1 = (fun _ => 1#1)
    ∧ (Cert.Pre_feed_forward_is_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15))).2.1 = (fun _ => 1#1)
    ∧ (Cert.Pre_feed_forward_is_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15))).2.2.1 = (fun _ => 1#1)
    ∧ (Cert.Pre_feed_forward_is_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_feed_forward_is_finite [hPre_feed_forward_is_finite : Cert.Pre_feed_forward_is_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_feed_forward_is_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15))).1 = (fun _ => 1#1)
    ∧ (Cert.Pre_feed_forward_is_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15))).2.1 = (fun _ => 1#1)
    ∧ (Cert.Pre_feed_forward_is_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15))).2.2.1 = (fun _ => 1#1)
    ∧ (Cert.Pre_feed_forward_is_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_logits_are_finite [hKernelIdeal : Cert.KernelIdeal.Facts] [hPre_logits_are_finite : Cert.Pre_logits_are_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_are_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_logits_are_finite [hReferenceIdeal : Cert.ReferenceIdeal.Facts] [hPre_logits_are_finite : Cert.Pre_logits_are_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_are_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_projection_is_finite [hKernel2Ideal : Cert.Kernel2Ideal.Facts] [hPre_projection_is_finite : Cert.Pre_projection_is_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_projection_is_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_projection_is_finite [hReference2Ideal : Cert.Reference2Ideal.Facts] [hPre_projection_is_finite : Cert.Pre_projection_is_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_projection_is_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Kernel3Ideal_pre_feed_forward_is_finite [hKernel3Ideal : Cert.Kernel3Ideal.Facts] [hPre_feed_forward_is_finite : Cert.Pre_feed_forward_is_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_feed_forward_is_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Reference3Ideal_pre_feed_forward_is_finite [hReference3Ideal : Cert.Reference3Ideal.Facts] [hPre_feed_forward_is_finite : Cert.Pre_feed_forward_is_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_feed_forward_is_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_logits_are_finite [hKernelIdeal : Cert.KernelIdeal.Facts] [hReferenceIdeal : Cert.ReferenceIdeal.Facts] [hPre_logits_are_finite : Cert.Pre_logits_are_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_are_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_projection_is_finite [hKernel2Ideal : Cert.Kernel2Ideal.Facts] [hReference2Ideal : Cert.Reference2Ideal.Facts] [hPre_projection_is_finite : Cert.Pre_projection_is_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_projection_is_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)) (v5 : (c : Dev Cert.Kernel2Ideal.nD) → Buf (Elt Ideal) ((c.tc : Thread Cert.Kernel2Ideal.nD Cert.Kernel2Ideal.τ).loc Cert.Kernel2Ideal.main_v5_5)) (v6 : (c : Dev Cert.Kernel2Ideal.nD) → Buf (Elt Ideal) ((c.tc : Thread Cert.Kernel2Ideal.nD Cert.Kernel2Ideal.τ).loc Cert.Kernel2Ideal.main_v5_6)) (v7 : (c : Dev Cert.Kernel2Ideal.nD) → Buf (Elt Ideal) ((c.tc : Thread Cert.Kernel2Ideal.nD Cert.Kernel2Ideal.τ).loc Cert.Kernel2Ideal.main_v5_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_v5_5) = v5 c
          ∧ r.2.mem ((c.tc : Thread Cert.Kernel2Ideal.nD Cert.Kernel2Ideal.τ).loc Cert.Kernel2Ideal.main_v5_6) = v6 c
          ∧ r.2.mem ((c.tc : Thread Cert.Kernel2Ideal.nD Cert.Kernel2Ideal.τ).loc Cert.Kernel2Ideal.main_v5_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_v50) = v2 c
          ∧ r.2.mem ((c.tc : Thread Cert.Reference2Ideal.nD Cert.Reference2Ideal.τ).loc Cert.Reference2Ideal.main_v52) = v3 c
          ∧ r.2.mem ((c.tc : Thread Cert.Reference2Ideal.nD Cert.Reference2Ideal.τ).loc Cert.Reference2Ideal.main_v69) = v4 c
          ∧ r.2.mem ((c.tc : Thread Cert.Reference2Ideal.nD Cert.Reference2Ideal.τ).loc Cert.Reference2Ideal.main_v86) = v5 c
          ∧ r.2.mem ((c.tc : Thread Cert.Reference2Ideal.nD Cert.Reference2Ideal.τ).loc Cert.Reference2Ideal.main_v87) = v6 c
          ∧ r.2.mem ((c.tc : Thread Cert.Reference2Ideal.nD Cert.Reference2Ideal.τ).loc Cert.Reference2Ideal.main_v89) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_feed_forward_is_finite [hKernel3Ideal : Cert.Kernel3Ideal.Facts] [hReference3Ideal : Cert.Reference3Ideal.Facts] [hPre_feed_forward_is_finite : Cert.Pre_feed_forward_is_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_feed_forward_is_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v84) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_logits_are_finite : Cert.Pre_logits_are_finite.Facts) (hPre_projection_is_finite : Cert.Pre_projection_is_finite.Facts) (hPre_feed_forward_is_finite : Cert.Pre_feed_forward_is_finite.Facts),
    quiescent_Kernel (hKernel := hKernel)
    ∧ quiescent_KernelIdeal (hKernelIdeal := hKernelIdeal)
    ∧ quiescent_KernelIdeal_pre_logits_are_finite (hKernelIdeal := hKernelIdeal) (hPre_logits_are_finite := hPre_logits_are_finite)
    ∧ quiescent_ReferenceIdeal (hReferenceIdeal := hReferenceIdeal)
    ∧ quiescent_ReferenceIdeal_pre_logits_are_finite (hReferenceIdeal := hReferenceIdeal) (hPre_logits_are_finite := hPre_logits_are_finite)
    ∧ quiescent_Kernel2 (hKernel2 := hKernel2)
    ∧ quiescent_Kernel2Ideal (hKernel2Ideal := hKernel2Ideal)
    ∧ quiescent_Kernel2Ideal_pre_projection_is_finite (hKernel2Ideal := hKernel2Ideal) (hPre_projection_is_finite := hPre_projection_is_finite)
    ∧ quiescent_Reference2Ideal (hReference2Ideal := hReference2Ideal)
    ∧ quiescent_Reference2Ideal_pre_projection_is_finite (hReference2Ideal := hReference2Ideal) (hPre_projection_is_finite := hPre_projection_is_finite)
    ∧ quiescent_Kernel3 (hKernel3 := hKernel3)
    ∧ quiescent_Kernel3Ideal (hKernel3Ideal := hKernel3Ideal)
    ∧ quiescent_Kernel3Ideal_pre_feed_forward_is_finite (hKernel3Ideal := hKernel3Ideal) (hPre_feed_forward_is_finite := hPre_feed_forward_is_finite)
    ∧ quiescent_Reference3Ideal (hReference3Ideal := hReference3Ideal)
    ∧ quiescent_Reference3Ideal_pre_feed_forward_is_finite (hReference3Ideal := hReference3Ideal) (hPre_feed_forward_is_finite := hPre_feed_forward_is_finite)
    ∧ preserves_Kernel_KernelIdeal
    ∧ algebraic_KernelIdeal_ReferenceIdeal_pre_logits_are_finite (hKernelIdeal := hKernelIdeal) (hReferenceIdeal := hReferenceIdeal) (hPre_logits_are_finite := hPre_logits_are_finite)
    ∧ preserves_Kernel2_Kernel2Ideal
    ∧ algebraic_Kernel2Ideal_Reference2Ideal_pre_projection_is_finite (hKernel2Ideal := hKernel2Ideal) (hReference2Ideal := hReference2Ideal) (hPre_projection_is_finite := hPre_projection_is_finite)
    ∧ preserves_Kernel3_Kernel3Ideal
    ∧ algebraic_Kernel3Ideal_Reference3Ideal_pre_feed_forward_is_finite (hKernel3Ideal := hKernel3Ideal) (hReference3Ideal := hReference3Ideal) (hPre_feed_forward_is_finite := hPre_feed_forward_is_finite)
-- ==== Pre_feed_forward_is_finite.lean ====
abbrev S2x8192x512 : Shape := ⟨3, ![2, 8192, 512]⟩
abbrev S1x128 : Shape := ⟨2, ![1, 128]⟩
abbrev S1x1024x1024 : Shape := ⟨3, ![1, 1024, 1024]⟩
abbrev S2x8192x1024 : Shape := ⟨3, ![2, 8192, 1024]⟩
abbrev S2x1x1024 : Shape := ⟨3, ![2, 1, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S2x1x1024 : S_.BroadcastsInDim S2x1x1024 (![] : Fin 0 → Fin S2x1x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)

variable [Facts]

def fn {F : FTy → Type} [FloatOps F] (main_arg0 : FVec F S2x8192x512 .bf16) (main_arg1 : FVec F S2x8192x512 .f32) (main_arg2 : FVec F S2x8192x512 .f32) (main_arg3 : FVec F S2x8192x512 .bf16) (main_arg4 : FVec F S1x128 .f32) (main_arg5 : FVec F S1x1024x1024 .f32) (main_arg6 : FVec F S2x8192x1024 .f32) (main_arg7 : FVec F S2x1x1024 .f32) (main_arg8 : FVec F S1x1024 .f32) (main_arg9 : FVec F S2x1x1024 .f32) (main_arg10 : FVec F S2x1x1024 .f32) (main_arg11 : FVec F S2x1x1024 .f32) (main_arg12 : FVec F S1x1024 .f32) (main_arg13 : FVec F S1x1024 .f32) (main_arg14 : FVec F S1x1024x5632 .f32) (main_arg15 : FVec F S1x2816x1024 .f32) : IVec S2x1x1024 1 × IVec S2x1x1024 1 × IVec S1x1024 1 × IVec S1x1024x5632 1 :=
  let main_v0 : FVec F S2x1x1024 .f32 := Host.absf main_arg9
  let main_cst : FVec F S_ .f32 := constant S_ .f32 0x7F800000#32
  let main_v1 : FVec F S2x1x1024 .f32 := broadcastInDim S2x1x1024 ![] bcast_S_S2x1x1024 main_cst
  let main_v2 : IVec S2x1x1024 1 := cmpf .olt main_v0 main_v1
  let main_v3 : FVec F S2x1x1024 .f32 := Host.absf main_arg10
  let main_cst_0 : FVec F S_ .f32 := constant S_ .f32 0x7F800000#32
  let main_v4 : FVec F S2x1x1024 .f32 := broadcastInDim S2x1x1024 ![] bcast_S_S2x1x1024 main_cst_0
  let main_v5 : IVec S2x1x1024 1 := cmpf .olt main_v3 main_v4
  let main_v6 : FVec F S1x1024 .f32 := Host.absf main_arg12
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x5632 .f32 := Host.absf main_arg14
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  (main_v2, main_v5, main_v8, main_v11)
-- ==== Pre_logits_are_finite.lean ====
abbrev S2x8192x512 : Shape := ⟨3, ![2, 8192, 512]⟩
abbrev S2x64x512x128 : Shape := ⟨4, ![2, 64, 512, 128]⟩
abbrev S2x2x512x128 : Shape := ⟨4, ![2, 2, 512, 128]⟩
abbrev S2x256x512 : Shape := ⟨3, ![2, 256, 512]⟩
abbrev S1x8x15x31 : Shape := ⟨4, ![1, 8, 15, 31]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  bcast_S_S2x64x512x128 : S_.BroadcastsInDim S2x64x512x128 (![] : Fin 0 → Fin S2x64x512x128.rank)
  bcast_S_S2x2x512x128 : S_.BroadcastsInDim S2x2x512x128 (![] : Fin 0 → Fin S2x2x512x128.rank)
  bcast_S_S1x8x15x31 : S_.BroadcastsInDim S1x8x15x31 (![] : Fin 0 → Fin S1x8x15x31.rank)

variable [Facts]

def fn {F : FTy → Type} [FloatOps F] (main_arg0 : FVec F S2x8192x512 .bf16) (main_arg1 : FVec F S2x64x512x128 .bf16) (main_arg2 : FVec F S2x8192x512 .bf16) (main_arg3 : FVec F S2x2x512x128 .bf16) (main_arg4 : FVec F S2x256x512 .bf16) (main_arg5 : FVec F S1x8x15x31 .f32) : IVec S2x8192x512 1 × IVec S2x64x512x128 1 × IVec S2x2x512x128 1 × IVec S1x8x15x31 1 :=
  let main_v0 : FVec F S2x8192x512 .f32 := (extf .f32 · bitsLt_bf16_f32) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_v4 : FVec F S2x64x512x128 .f32 := (extf .f32 · bitsLt_bf16_f32) main_arg1
  let main_v5 : FVec F S2x64x512x128 .f32 := Host.absf main_v4
  let main_cst_0 : FVec F S_ .f32 := constant S_ .f32 0x7F800000#32
  let main_v6 : FVec F S2x64x512x128 .f32 := broadcastInDim S2x64x512x128 ![] bcast_S_S2x64x512x128 main_cst_0
  let main_v7 : IVec S2x64x512x128 1 := cmpf .olt main_v5 main_v6
  let main_v8 : FVec F S2x2x512x128 .f32 := (extf .f32 · bitsLt_bf16_f32) main_arg3
  let main_v9 : FVec F S2x2x512x128 .f32 := Host.absf main_v8
  let main_cst_1 : FVec F S_ .f32 := constant S_ .f32 0x7F800000#32
  let main_v10 : FVec F S2x2x512x128 .f32 := broadcastInDim S2x2x512x128 ![] bcast_S_S2x2x512x128 main_cst_1
  let main_v11 : IVec S2x2x512x128 1 := cmpf .olt main_v9 main_v10
  let main_v12 : FVec F S1x8x15x31 .f32 := Host.absf main_arg5
  let main_cst_2 : FVec F S_ .f32 := constant S_ .f32 0x7F800000#32
  let main_v13 : FVec F S1x8x15x31 .f32 := broadcastInDim S1x8x15x31 ![] bcast_S_S1x8x15x31 main_cst_2
  let main_v14 : IVec S1x8x15x31 1 := cmpf .olt main_v12 main_v13
  (main_v3, main_v7, main_v11, main_v14)
-- ==== Pre_projection_is_finite.lean ====
abbrev S2x8192x1024 : Shape := ⟨3, ![2, 8192, 1024]⟩
abbrev S2x1x1024 : Shape := ⟨3, ![2, 1, 1024]⟩
abbrev S1x1024 : Shape := ⟨2, ![1, 1024]⟩
abbrev S1x1024x4096 : Shape := ⟨3, ![1, 1024, 4096]⟩
abbrev S2x2x512 : Shape := ⟨3, ![2, 2, 512]⟩
abbrev S_ : Shape := ⟨0, ![]⟩

class Facts : Prop where
  bcast_S_S2x1x1024 : S_.BroadcastsInDim S2x1x1024 (![] : Fin 0 → Fin S2x1x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)

variable [Facts]

def fn {F : FTy → Type} [FloatOps F] (main_arg0 : FVec F S2x8192x1024 .f32) (main_arg1 : FVec F S2x1x1024 .f32) (main_arg2 : FVec F S2x1x1024 .f32) (main_arg3 : FVec F S1x1024 .f32) (main_arg4 : FVec F S1x1024x4096 .f32) (main_arg5 : FVec F S2x2x512 .f32) : IVec S2x1x1024 1 × IVec S2x1x1024 1 × IVec S1x1024 1 × IVec S1x1024x4096 1 :=
  let main_v0 : FVec F S2x1x1024 .f32 := Host.absf main_arg1
  let main_cst : FVec F S_ .f32 := constant S_ .f32 0x7F800000#32
  let main_v1 : FVec F S2x1x1024 .f32 := broadcastInDim S2x1x1024 ![] bcast_S_S2x1x1024 main_cst
  let main_v2 : IVec S2x1x1024 1 := cmpf .olt main_v0 main_v1
  let main_v3 : FVec F S2x1x1024 .f32 := Host.absf main_arg2
  let main_cst_0 : FVec F S_ .f32 := constant S_ .f32 0x7F800000#32
  let main_v4 : FVec F S2x1x1024 .f32 := broadcastInDim S2x1x1024 ![] bcast_S_S2x1x1024 main_cst_0
  let main_v5 : IVec S2x1x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x4096 .f32 := Host.absf main_arg4
  let main_cst_2 : FVec F S_ .f32 := constant S_ .f32 0x7F800000#32
  let main_v10 : FVec F S1x1024x4096 .f32 := broadcastInDim S1x1024x4096 ![] bcast_S_S1x1024x4096 main_cst_2
  let main_v11 : IVec S1x1024x4096 1 := cmpf .olt main_v9 main_v10
  (main_v2, main_v5, main_v8, main_v11)
-- ==== Kernel.lean ====
abbrev S2x8192x512 : Shape := ⟨3, ![2, 8192, 512]⟩
abbrev S2x64x512x128 : Shape := ⟨4, ![2, 64, 512, 128]⟩
abbrev S2x2x512x128 : Shape := ⟨4, ![2, 2, 512, 128]⟩
abbrev S2x256x512 : Shape := ⟨3, ![2, 256, 512]⟩
abbrev S1x8x15x31 : Shape := ⟨4, ![1, 8, 15, 31]⟩
abbrev S5x2x10 : Shape := ⟨3, ![5, 2, 10]⟩
abbrev S100 : Shape := ⟨1, ![100]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S5x2x1x10x1 : Shape := ⟨5, ![5, 2, 1, 10, 1]⟩
abbrev S1x1x64x1x64 : Shape := ⟨5, ![1, 1, 64, 1, 64]⟩
abbrev S5x2x64x10x64 : Shape := ⟨5, ![5, 2, 64, 10, 64]⟩
abbrev S5x2x64x640 : Shape := ⟨4, ![5, 2, 64, 640]⟩
abbrev S8x16x31 : Shape := ⟨3, ![8, 16, 31]⟩
abbrev S1 : Shape := ⟨1, ![1]⟩
abbrev S100x1 : Shape := ⟨2, ![100, 1]⟩
abbrev S1x1 : Shape := ⟨2, ![1, 1]⟩
abbrev S8x100x31 : Shape := ⟨3, ![8, 100, 31]⟩
abbrev S8x5x2x10x31 : Shape := ⟨5, ![8, 5, 2, 10, 31]⟩
abbrev S8x5x2x10x16 : Shape := ⟨5, ![8, 5, 2, 10, 16]⟩
abbrev S8x5x2x9x31 : Shape := ⟨5, ![8, 5, 2, 9, 31]⟩
abbrev S8x5x2x1x31 : Shape := ⟨5, ![8, 5, 2, 1, 31]⟩
abbrev S8x5x2x10x15 : Shape := ⟨5, ![8, 5, 2, 10, 15]⟩
abbrev S8x5x2x10x33 : Shape := ⟨5, ![8, 5, 2, 10, 33]⟩
abbrev S8x5x2x10x64 : Shape := ⟨5, ![8, 5, 2, 10, 64]⟩
abbrev S2x4x5x2x640 : Shape := ⟨5, ![2, 4, 5, 2, 640]⟩
abbrev S5x2x4x2x640 : Shape := ⟨5, ![5, 2, 4, 2, 640]⟩
abbrev S5x2x8x640 : Shape := ⟨4, ![5, 2, 8, 640]⟩
abbrev S5x2x512x640 : Shape := ⟨4, ![5, 2, 512, 640]⟩
abbrev S1x1x8x640 : Shape := ⟨4, ![1, 1, 8, 640]⟩
abbrev S1x2x64x640 : Shape := ⟨4, ![1, 2, 64, 640]⟩
abbrev S1x1x512x640 : Shape := ⟨4, ![1, 1, 512, 640]⟩
abbrev S1x1x1x640 : Shape := ⟨4, ![1, 1, 1, 640]⟩
abbrev S1x640 : Shape := ⟨2, ![1, 640]⟩
abbrev S64x640 : Shape := ⟨2, ![64, 640]⟩
abbrev S64x384 : Shape := ⟨2, ![64, 384]⟩
abbrev S64x1024 : Shape := ⟨2, ![64, 1024]⟩
abbrev S1x1x64x640 : Shape := ⟨4, ![1, 1, 64, 640]⟩
abbrev S1x256x512 : Shape := ⟨3, ![1, 256, 512]⟩
abbrev S1x64x512x128 : Shape := ⟨4, ![1, 64, 512, 128]⟩
abbrev S1x8192x512 : Shape := ⟨3, ![1, 8192, 512]⟩
abbrev S1x2x512x128 : Shape := ⟨4, ![1, 2, 512, 128]⟩
abbrev S1x2x512x640 : Shape := ⟨4, ![1, 2, 512, 640]⟩
abbrev S512x256 : Shape := ⟨2, ![512, 256]⟩
abbrev S1x128x256 : Shape := ⟨3, ![1, 128, 256]⟩
abbrev S128x256 : Shape := ⟨2, ![128, 256]⟩
abbrev S1x1x256x128 : Shape := ⟨4, ![1, 1, 256, 128]⟩
abbrev S256x128 : Shape := ⟨2, ![256, 128]⟩
abbrev S256x640 : Shape := ⟨2, ![256, 640]⟩
abbrev S256x256 : Shape := ⟨2, ![256, 256]⟩
abbrev S1x256 : Shape := ⟨2, ![1, 256]⟩
abbrev S512x640 : Shape := ⟨2, ![512, 640]⟩
abbrev S1x640x256 : Shape := ⟨3, ![1, 640, 256]⟩
abbrev S640x256 : Shape := ⟨2, ![640, 256]⟩
abbrev S512 : Shape := ⟨1, ![512]⟩
abbrev S512x1 : Shape := ⟨2, ![512, 1]⟩
abbrev S1x256x256 : Shape := ⟨3, ![1, 256, 256]⟩

abbrev nBuf : Space → Nat
  | .hbm => 88
  | .vmem => 22
  | .smem => 0
  | _ => 0

abbrev bufTy : (tb : Table) → Fin (tcTables nBuf tb) → BufTy
  | .hbm, ⟨0, _⟩ => ⟨S2x8192x512, .bf16⟩
  | .hbm, ⟨1, _⟩ => ⟨S2x64x512x128, .bf16⟩
  | .hbm, ⟨2, _⟩ => ⟨S2x8192x512, .bf16⟩
  | .hbm, ⟨3, _⟩ => ⟨S2x2x512x128, .bf16⟩
  | .hbm, ⟨4, _⟩ => ⟨S2x256x512, .bf16⟩
  | .hbm, ⟨5, _⟩ => ⟨S1x8x15x31, .f32⟩
  | .hbm, ⟨6, _⟩ => ⟨S5x2x10, .i1⟩
  | .hbm, ⟨7, _⟩ => ⟨S100, .i32⟩
  | .hbm, ⟨8, _⟩ => ⟨S8x15x31, .f32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S1x64, .i32⟩
  | .hbm, ⟨22, _⟩ => ⟨S64x1, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S1x64, .i32⟩
  | .hbm, ⟨27, _⟩ => ⟨S64x1, .i32⟩
  | .hbm, ⟨28, _⟩ => ⟨S_, .i32⟩
  | .hbm, ⟨29, _⟩ => ⟨S64x1, .i32⟩
  | .hbm, ⟨30, _⟩ => ⟨S64x1, .i32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S64x64, .i1⟩
  | .hbm, ⟨35, _⟩ => ⟨S5x2x1x10x1, .i1⟩
  | .hbm, ⟨36, _⟩ => ⟨S1x1x64x1x64, .i1⟩
  | .hbm, ⟨37, _⟩ => ⟨S5x2x64x10x64, .i1⟩
  | .hbm, ⟨38, _⟩ => ⟨S5x2x64x10x64, .i1⟩
  | .hbm, ⟨39, _⟩ => ⟨S5x2x64x10x64, .i1⟩
  | .hbm, ⟨40, _⟩ => ⟨S5x2x64x640, .i1⟩
  | .hbm, ⟨41, _⟩ => ⟨S_, .f32⟩
  | .hbm, ⟨42, _⟩ => ⟨S_, .f32⟩
  | .hbm, ⟨43, _⟩ => ⟨S5x2x64x640, .f32⟩
  | .hbm, ⟨44, _⟩ => ⟨S5x2x64x640, .f32⟩
  | .hbm, ⟨45, _⟩ => ⟨S5x2x64x640, .f32⟩
  | .hbm, ⟨46, _⟩ => ⟨S_, .f32⟩
  | .hbm, ⟨47, _⟩ => ⟨S8x16x31, .f32⟩
  | .hbm, ⟨48, _⟩ => ⟨S_, .i32⟩
  | .hbm, ⟨49, _⟩ => ⟨S1, .i32⟩
  | .hbm, ⟨50, _⟩ => ⟨S8x16x31, .f32⟩
  | .hbm, ⟨51, _⟩ => ⟨S_, .i32⟩
  | .hbm, ⟨52, _⟩ => ⟨S100, .i32⟩
  | .hbm, ⟨53, _⟩ => ⟨S100, .i1⟩
  | .hbm, ⟨54, _⟩ => ⟨S_, .i32⟩
  | .hbm, ⟨55, _⟩ => ⟨S100, .i32⟩
  | .hbm, ⟨56, _⟩ => ⟨S100, .i32⟩
  | .hbm, ⟨57, _⟩ => ⟨S100, .i32⟩
  | .hbm, ⟨58, _⟩ => ⟨S100x1, .i32⟩
  | .hbm, ⟨59, _⟩ => ⟨S1, .i32⟩
  | .hbm, ⟨60, _⟩ => ⟨S_, .i32⟩
  | .hbm, ⟨61, _⟩ => ⟨S100x1, .i32⟩
  | .hbm, ⟨62, _⟩ => ⟨S100x1, .i1⟩
  | .hbm, ⟨63, _⟩ => ⟨S1x1, .i32⟩
  | .hbm, ⟨64, _⟩ => ⟨S100x1, .i32⟩
  | .hbm, ⟨65, _⟩ => ⟨S100x1, .i1⟩
  | .hbm, ⟨66, _⟩ => ⟨S100x1, .i1⟩
  | .hbm, ⟨67, _⟩ => ⟨S_, .i1⟩
  | .hbm, ⟨68, _⟩ => ⟨S100, .i1⟩
  | .hbm, ⟨69, _⟩ => ⟨S8x100x31, .f32⟩
  | .hbm, ⟨70, _⟩ => ⟨S8x100x31, .i1⟩
  | .hbm, ⟨71, _⟩ => ⟨S_, .f32⟩
  | .hbm, ⟨72, _⟩ => ⟨S8x100x31, .f32⟩
  | .hbm, ⟨73, _⟩ => ⟨S8x100x31, .f32⟩
  | .hbm, ⟨74, _⟩ => ⟨S8x5x2x10x31, .f32⟩
  | .hbm, ⟨75, _⟩ => ⟨S8x5x2x10x16, .f32⟩
  | .hbm, ⟨76, _⟩ => ⟨S8x5x2x9x31, .f32⟩
  | .hbm, ⟨77, _⟩ => ⟨S8x5x2x1x31, .f32⟩
  | .hbm, ⟨78, _⟩ => ⟨S8x5x2x10x31, .f32⟩
  | .hbm, ⟨79, _⟩ => ⟨S8x5x2x10x15, .f32⟩
  | .hbm, ⟨80, _⟩ => ⟨S_, .f32⟩
  | .hbm, ⟨81, _⟩ => ⟨S8x5x2x10x33, .f32⟩
  | .hbm, ⟨82, _⟩ => ⟨S8x5x2x10x64, .f32⟩
  | .hbm, ⟨83, _⟩ => ⟨S2x4x5x2x640, .f32⟩
  | .hbm, ⟨84, _⟩ => ⟨S5x2x4x2x640, .f32⟩
  | .hbm, ⟨85, _⟩ => ⟨S5x2x8x640, .f32⟩
  | .hbm, ⟨86, _⟩ => ⟨S5x2x512x640, .f32⟩
  | .hbm, ⟨87, _⟩ => ⟨S2x8192x512, .bf16⟩
  | .local _ .vmem, ⟨0, _⟩ => ⟨S1x1x8x640, .f32⟩
  | .local _ .vmem, ⟨1, _⟩ => ⟨S1x1x8x640, .f32⟩
  | .local _ .vmem, ⟨2, _⟩ => ⟨S1x2x64x640, .f32⟩
  | .local _ .vmem, ⟨3, _⟩ => ⟨S1x2x64x640, .f32⟩
  | .local _ .vmem, ⟨4, _⟩ => ⟨S1x1x512x640, .f32⟩
  | .local _ .vmem, ⟨5, _⟩ => ⟨S1x1x512x640, .f32⟩
  | .local _ .vmem, ⟨6, _⟩ => ⟨S1x256x512, .bf16⟩
  | .local _ .vmem, ⟨7, _⟩ => ⟨S1x256x512, .bf16⟩
  | .local _ .vmem, ⟨8, _⟩ => ⟨S1x64x512x128, .bf16⟩
  | .local _ .vmem, ⟨9, _⟩ => ⟨S1x64x512x128, .bf16⟩
  | .local _ .vmem, ⟨10, _⟩ => ⟨S1x8192x512, .bf16⟩
  | .local _ .vmem, ⟨11, _⟩ => ⟨S1x8192x512, .bf16⟩
  | .local _ .vmem, ⟨12, _⟩ => ⟨S1x2x512x128, .bf16⟩
  | .local _ .vmem, ⟨13, _⟩ => ⟨S1x2x512x128, .bf16⟩
  | .local _ .vmem, ⟨14, _⟩ => ⟨S1x256x512, .bf16⟩
  | .local _ .vmem, ⟨15, _⟩ => ⟨S1x256x512, .bf16⟩
  | .local _ .vmem, ⟨16, _⟩ => ⟨S1x2x512x640, .f32⟩
  | .local _ .vmem, ⟨17, _⟩ => ⟨S1x2x512x640, .f32⟩
  | .local _ .vmem, ⟨18, _⟩ => ⟨S1x2x512x640, .f32⟩
  | .local _ .vmem, ⟨19, _⟩ => ⟨S1x2x512x640, .f32⟩
  | .local _ .vmem, ⟨20, _⟩ => ⟨S1x256x512, .bf16⟩
  | .local _ .vmem, ⟨21, _⟩ => ⟨S1x256x512, .bf16⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_c_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_call3_v0 : Ref sig .tc := ⟨.hbm, 76, rfl⟩
abbrev main_call3_v1 : Ref sig .tc := ⟨.hbm, 77, rfl⟩
abbrev main_v31 : Ref sig .tc := ⟨.hbm, 78, rfl⟩
abbrev main_v32 : Ref sig .tc := ⟨.hbm, 79, rfl⟩
abbrev main_cst_8 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![5, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x8x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x64x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 32], ![false, false]⟩

def k1_mult1 (i : grid1.Coords) : BitVec 32 :=
  let c118_i32 : BitVec 32 := 118#32
  let c0_i32_12 : BitVec 32 := 0#32
  let c2_i32_11 : BitVec 32 := 2#32
  let c2_i32 : BitVec 32 := 2#32
  let arg1 : BitVec 32 := BitVec.ofNat 32 (i 1).val
  let v51 : BitVec 32 := Scalar.muli c2_i32 arg1
  let c0_i32_10 : BitVec 32 := 0#32
  let v52 : BitVec 32 := Scalar.addi v51 c0_i32_10
  let v53 : BitVec 32 := Scalar.muli c2_i32_11 v52
  let c4_i32 : BitVec 32 := 4#32
  let v54 : BitVec 32 := Scalar.subi v53 c4_i32
  let v55 : BitVec 32 := Scalar.maxsi c0_i32_12 v54
  let v56 : BitVec 32 := Scalar.minsi c118_i32 v55
  let c64_i32_20 : BitVec 32 := 64#32
  let v74 : BitVec 32 := Scalar.muli v56 c64_i32_20
  v74
def k1_off1 (i : grid1.Coords) (c0_i32_10 : BitVec 32) (c0_i32_23 : BitVec 32) : Fin 4 → Nat :=
  let c0_24 : Index := 0#32
  let c118_i32 : BitVec 32 := 118#32
  let c0_i32_12 : BitVec 32 := 0#32
  let c2_i32_11 : BitVec 32 := 2#32
  let c2_i32 : BitVec 32 := 2#32
  let arg1 : BitVec 32 := BitVec.ofNat 32 (i 1).val
  let v51 : BitVec 32 := Scalar.muli c2_i32 arg1
  let v52 : BitVec 32 := Scalar.addi v51 c0_i32_10
  let v53 : BitVec 32 := Scalar.muli c2_i32_11 v52
  let c4_i32 : BitVec 32 := 4#32
  let v54 : BitVec 32 := Scalar.subi v53 c4_i32
  let v55 : BitVec 32 := Scalar.maxsi c0_i32_12 v54
  let v56 : BitVec 32 := Scalar.minsi c118_i32 v55
  let c0_i32_14 : BitVec 32 := 0#32
  let v58 : BitVec 1 := Scalar.cmpi .sgt v56 c0_i32_14
  let v59 : BitVec 32 := Scalar.extui v58
  let c0_i32_15 : BitVec 32 := 0#32
  let v60 : BitVec 1 := Scalar.cmpi .slt v56 c0_i32_15
  let v61 : BitVec 32 := Scalar.extui v60
  let v62 : BitVec 32 := Scalar.subi v59 v61
  let c2_i32_13 : BitVec 32 := 2#32
  let c0_i32_16 : BitVec 32 := 0#32
  let v63 : BitVec 1 := Scalar.cmpi .sgt c2_i32_13 c0_i32_16
  let v64 : BitVec 32 := Scalar.extui v63
  let c0_i32_17 : BitVec 32 := 0#32
  let v65 : BitVec 1 := Scalar.cmpi .slt c2_i32_13 c0_i32_17
  let v66 : BitVec 32 := Scalar.extui v65
  let v67 : BitVec 32 := Scalar.subi v64 v66
  let v68 : BitVec 1 := Scalar.cmpi .ne v62 v67
  let v69 : BitVec 32 := Scalar.remsi v56 c2_i32_13
  let c0_i32_18 : BitVec 32 := 0#32
  let v70 : BitVec 1 := Scalar.cmpi .ne v69 c0_i32_18
  let v71 : BitVec 1 := Scalar.andi v68 v70
  let v57 : BitVec 32 := Scalar.divsi v56 c2_i32_13
  let c1_i32_19 : BitVec 32 := 1#32
  let v72 : BitVec 32 := Scalar.subi v57 c1_i32_19
  let v73 : BitVec 32 := Scalar.select v71 v72 v57
  let v78 : BitVec 32 := Scalar.addi v73 c0_i32_23
  let v79 : Index := Scalar.indexCast v78
  let c0_25 : Index := 0#32
  let c0_26 : Index := 0#32
  ![0, v79.toNat, 0, 0]
def k1_mult2 (i : grid1.Coords) : BitVec 32 :=
  let c118_i32_60 : BitVec 32 := 118#32
  let c0_i32_59 : BitVec 32 := 0#32
  let c2_i32_57 : BitVec 32 := 2#32
  let c2_i32_55 : BitVec 32 := 2#32
  let arg1 : BitVec 32 := BitVec.ofNat 32 (i 1).val
  let v114 : BitVec 32 := Scalar.muli c2_i32_55 arg1
  let c0_i32_56 : BitVec 32 := 0#32
  let v115 : BitVec 32 := Scalar.addi v114 c0_i32_56
  let v116 : BitVec 32 := Scalar.muli c2_i32_57 v115
  let c4_i32_58 : BitVec 32 := 4#32
  let v117 : BitVec 32 := Scalar.subi v116 c4_i32_58
  let v118 : BitVec 32 := Scalar.maxsi c0_i32_59 v117
  let v119 : BitVec 32 := Scalar.minsi c118_i32_60 v118
  let c64_i32_68 : BitVec 32 := 64#32
  let v137 : BitVec 32 := Scalar.muli v119 c64_i32_68
  v137
def k1_off2 (i : grid1.Coords) (c0_i32_56 : BitVec 32) (c0_i32_71 : BitVec 32) : Fin 4 → Nat :=
  let c0_72 : Index := 0#32
  let c118_i32_60 : BitVec 32 := 118#32
  let c0_i32_59 : BitVec 32 := 0#32
  let c2_i32_57 : BitVec 32 := 2#32
  let c2_i32_55 : BitVec 32 := 2#32
  let arg1 : BitVec 32 := BitVec.ofNat 32 (i 1).val
  let v114 : BitVec 32 := Scalar.muli c2_i32_55 arg1
  let v115 : BitVec 32 := Scalar.addi v114 c0_i32_56
  let v116 : BitVec 32 := Scalar.muli c2_i32_57 v115
  let c4_i32_58 : BitVec 32 := 4#32
  let v117 : BitVec 32 := Scalar.subi v116 c4_i32_58
  let v118 : BitVec 32 := Scalar.maxsi c0_i32_59 v117
  let v119 : BitVec 32 := Scalar.minsi c118_i32_60 v118
  let c0_i32_62 : BitVec 32 := 0#32
  let v121 : BitVec 1 := Scalar.cmpi .sgt v119 c0_i32_62
  let v122 : BitVec 32 := Scalar.extui v121
  let c0_i32_63 : BitVec 32 := 0#32
  let v123 : BitVec 1 := Scalar.cmpi .slt v119 c0_i32_63
  let v124 : BitVec 32 := Scalar.extui v123
  let v125 : BitVec 32 := Scalar.subi v122 v124
  let c2_i32_61 : BitVec 32 := 2#32
  let c0_i32_64 : BitVec 32 := 0#32
  let v126 : BitVec 1 := Scalar.cmpi .sgt c2_i32_61 c0_i32_64
  let v127 : BitVec 32 := Scalar.extui v126
  let c0_i32_65 : BitVec 32 := 0#32
  let v128 : BitVec 1 := Scalar.cmpi .slt c2_i32_61 c0_i32_65
  let v129 : BitVec 32 := Scalar.extui v128
  let v130 : BitVec 32 := Scalar.subi v127 v129
  let v131 : BitVec 1 := Scalar.cmpi .ne v125 v130
  let v132 : BitVec 32 := Scalar.remsi v119 c2_i32_61
  let c0_i32_66 : BitVec 32 := 0#32
  let v133 : BitVec 1 := Scalar.cmpi .ne v132 c0_i32_66
  let v134 : BitVec 1 := Scalar.andi v131 v133
  let v120 : BitVec 32 := Scalar.divsi v119 c2_i32_61
  let c1_i32_67 : BitVec 32 := 1#32
  let v135 : BitVec 32 := Scalar.subi v120 c1_i32_67
  let v136 : BitVec 32 := Scalar.select v134 v135 v120
  let v141 : BitVec 32 := Scalar.addi v136 c0_i32_71
  let v142 : Index := Scalar.indexCast v141
  let c256_73 : Index := 256#32
  let c0_74 : Index := 0#32
  ![0, v142.toNat, 256, 0]
def k1_mult3 (i : grid1.Coords) : BitVec 32 :=
  let c118_i32_111 : BitVec 32 := 118#32
  let c0_i32_110 : BitVec 32 := 0#32
  let c2_i32_108 : BitVec 32 := 2#32
  let c2_i32_106 : BitVec 32 := 2#32
  let arg1 : BitVec 32 := BitVec.ofNat 32 (i 1).val
  let v177 : BitVec 32 := Scalar.muli c2_i32_106 arg1
  let c1_i32_107 : BitVec 32 := 1#32
  let v178 : BitVec 32 := Scalar.addi v177 c1_i32_107
  let v179 : BitVec 32 := Scalar.muli c2_i32_108 v178
  let c4_i32_109 : BitVec 32 := 4#32
  let v180 : BitVec 32 := Scalar.subi v179 c4_i32_109
  let v181 : BitVec 32 := Scalar.maxsi c0_i32_110 v180
  let v182 : BitVec 32 := Scalar.minsi c118_i32_111 v181
  let c64_i32_119 : BitVec 32 := 64#32
  let v200 : BitVec 32 := Scalar.muli v182 c64_i32_119
  v200
def k1_mult4 (i : grid1.Coords) : BitVec 32 :=
  let c118_i32_162 : BitVec 32 := 118#32
  let c0_i32_161 : BitVec 32 := 0#32
  let c2_i32_159 : BitVec 32 := 2#32
  let c2_i32_157 : BitVec 32 := 2#32
  let arg1 : BitVec 32 := BitVec.ofNat 32 (i 1).val
  let v240 : BitVec 32 := Scalar.muli c2_i32_157 arg1
  let c1_i32_158 : BitVec 32 := 1#32
  let v241 : BitVec 32 := Scalar.addi v240 c1_i32_158
  let v242 : BitVec 32 := Scalar.muli c2_i32_159 v241
  let c4_i32_160 : BitVec 32 := 4#32
  let v243 : BitVec 32 := Scalar.subi v242 c4_i32_160
  let v244 : BitVec 32 := Scalar.maxsi c0_i32_161 v243
  let v245 : BitVec 32 := Scalar.minsi c118_i32_162 v244
  let c64_i32_170 : BitVec 32 := 64#32
  let v263 : BitVec 32 := Scalar.muli v245 c64_i32_170
  v263
def k1_off3 (i : grid1.Coords) (c0_i32_10 : BitVec 32) : Fin 3 → Nat :=
  let c0_209 : Index := 0#32
  let c118_i32 : BitVec 32 := 118#32
  let c0_i32_12 : BitVec 32 := 0#32
  let c2_i32_11 : BitVec 32 := 2#32
  let c2_i32 : BitVec 32 := 2#32
  let arg1 : BitVec 32 := BitVec.ofNat 32 (i 1).val
  let v51 : BitVec 32 := Scalar.muli c2_i32 arg1
  let v52 : BitVec 32 := Scalar.addi v51 c0_i32_10
  let v53 : BitVec 32 := Scalar.muli c2_i32_11 v52
  let c4_i32 : BitVec 32 := 4#32
  let v54 : BitVec 32 := Scalar.subi v53 c4_i32
  let v55 : BitVec 32 := Scalar.maxsi c0_i32_12 v54
  let v56 : BitVec 32 := Scalar.minsi c118_i32 v55
  let c64_i32_20 : BitVec 32 := 64#32
  let v74 : BitVec 32 := Scalar.muli v56 c64_i32_20
  let v75 : BitVec 32 := v74
  let v303 : Index := Scalar.indexCast v75
  let c0_210 : Index := 0#32
  ![0, v303.toNat, 0]
def k1_off4 (i : grid1.Coords) (c0_i32_56 : BitVec 32) : Fin 3 → Nat :=
  let c0_224 : Index := 0#32
  let c118_i32_60 : BitVec 32 := 118#32
  let c0_i32_59 : BitVec 32 := 0#32
  let c2_i32_57 : BitVec 32 := 2#32
  let c2_i32_55 : BitVec 32 := 2#32
  let arg1 : BitVec 32 := BitVec.ofNat 32 (i 1).val
  let v114 : BitVec 32 := Scalar.muli c2_i32_55 arg1
  let v115 : BitVec 32 := Scalar.addi v114 c0_i32_56
  let v116 : BitVec 32 := Scalar.muli c2_i32_57 v115
  let c4_i32_58 : BitVec 32 := 4#32
  let v117 : BitVec 32 := Scalar.subi v116 c4_i32_58
  let v118 : BitVec 32 := Scalar.maxsi c0_i32_59 v117
  let v119 : BitVec 32 := Scalar.minsi c118_i32_60 v118
  let c64_i32_68 : BitVec 32 := 64#32
  let v137 : BitVec 32 := Scalar.muli v119 c64_i32_68
  let v138 : BitVec 32 := v137
  let v344 : Index := Scalar.indexCast v138
  let c256_225 : Index := 256#32
  ![0, v344.toNat, 256]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c1_i32 : BitVec 32 := 1#32
  let v2 : BitVec 1 := Scalar.cmpi .sge v1 c1_i32
  let v3 : BitVec 32 := Scalar.extui v2
  let c0_i32_0 : BitVec 32 := 0#32
  let v4 : BitVec 32 := Scalar.addi c0_i32_0 v3
  let c2_i32_1 : BitVec 32 := 2#32
  let v5 : BitVec 1 := Scalar.cmpi .sge v1 c2_i32_1
  let v6 : BitVec 32 := Scalar.extui v5
  let v7 : BitVec 32 := Scalar.addi v4 v6
  let c62_i32 : BitVec 32 := 62#32
  let v8 : BitVec 1 := Scalar.cmpi .sge v1 c62_i32
  let v9 : BitVec 32 := Scalar.extui v8
  let v10 : BitVec 32 := Scalar.addi v7 v9
  let c63_i32 : BitVec 32 := 63#32
  let v11 : BitVec 1 := Scalar.cmpi .sge v1 c63_i32
  let v12 : BitVec 32 := Scalar.extui v11
  let v13 : BitVec 32 := Scalar.addi v10 v12
  let c0_i32_2 : BitVec 32 := 0#32
  let c0_i32_3 : BitVec 32 := 0#32
  let c0_i32_4 : BitVec 32 := 0#32
  let c0_i32_5 : BitVec 32 := 0#32
  ![v13.toNat, c0_i32_2.toNat, c0_i32_3.toNat, c0_i32_4.toNat]

def cc1_transform_6 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c1_i32_0 : BitVec 32 := 1#32
  let v2 : BitVec 1 := Scalar.cmpi .sge v1 c1_i32_0
  let v3 : BitVec 32 := Scalar.extui v2
  let c0_i32 : BitVec 32 := 0#32
  let v4 : BitVec 32 := Scalar.addi c0_i32 v3
  let c2_i32_1 : BitVec 32 := 2#32
  let v5 : BitVec 1 := Scalar.cmpi .sge v1 c2_i32_1
  let v6 : BitVec 32 := Scalar.extui v5
  let v7 : BitVec 32 := Scalar.addi v4 v6
  let c62_i32 : BitVec 32 := 62#32
  let v8 : BitVec 1 := Scalar.cmpi .sge v1 c62_i32
  let v9 : BitVec 32 := Scalar.extui v8
  let v10 : BitVec 32 := Scalar.addi v7 v9
  let c63_i32 : BitVec 32 := 63#32
  let v11 : BitVec 1 := Scalar.cmpi .sge v1 c63_i32
  let v12 : BitVec 32 := Scalar.extui v11
  let v13 : BitVec 32 := Scalar.addi v10 v12
  let c0_i32_2 : BitVec 32 := 0#32
  let c0_i32_3 : BitVec 32 := 0#32
  let c0_i32_4 : BitVec 32 := 0#32
  let c0_i32_5 : BitVec 32 := 0#32
  ![v13.toNat, c0_i32_2.toNat, c0_i32_3.toNat, c0_i32_4.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8192x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2x512x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x2x512x640 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x256x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S2x8192x512 : Shape := ⟨3, ![2, 8192, 512]⟩
abbrev S2x64x512x128 : Shape := ⟨4, ![2, 64, 512, 128]⟩
abbrev S2x2x512x128 : Shape := ⟨4, ![2, 2, 512, 128]⟩
abbrev S2x256x512 : Shape := ⟨3, ![2, 256, 512]⟩
abbrev S1x8x15x31 : Shape := ⟨4, ![1, 8, 15, 31]⟩
abbrev S2x64x128x512 : Shape := ⟨4, ![2, 64, 128, 512]⟩
abbrev S2x2x128x512 : Shape := ⟨4, ![2, 2, 128, 512]⟩
abbrev S128 : Shape := ⟨1, ![128]⟩
abbrev S64 : Shape := ⟨1, ![64]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128x1x8x1 : Shape := ⟨4, ![128, 1, 8, 1]⟩
abbrev S1x64x1x16 : Shape := ⟨4, ![1, 64, 1, 16]⟩
abbrev S128x64x8x16 : Shape := ⟨4, ![128, 64, 8, 16]⟩
abbrev S8192x128 : Shape := ⟨2, ![8192, 128]⟩
abbrev S8x15x31 : Shape := ⟨3, ![8, 15, 31]⟩
abbrev S8x465 : Shape := ⟨2, ![8, 465]⟩
abbrev S8192x128x1 : Shape := ⟨3, ![8192, 128, 1]⟩
abbrev S8x8192x128 : Shape := ⟨3, ![8, 8192, 128]⟩
abbrev S2x8192x128x512 : Shape := ⟨4, ![2, 8192, 128, 512]⟩
abbrev S2x8192x128x8x64 : Shape := ⟨5, ![2, 8192, 128, 8, 64]⟩
abbrev S2x8192x8x64 : Shape := ⟨4, ![2, 8192, 8, 64]⟩
abbrev S2x8x8192x128 : Shape := ⟨4, ![2, 8, 8192, 128]⟩
abbrev S1x8x8192x128 : Shape := ⟨4, ![1, 8, 8192, 128]⟩
abbrev S2x256x8x64 : Shape := ⟨4, ![2, 256, 8, 64]⟩
abbrev S2x8x8192x256 : Shape := ⟨4, ![2, 8, 8192, 256]⟩
abbrev S2x8x8192x384 : Shape := ⟨4, ![2, 8, 8192, 384]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩

abbrev nBuf : Space → Nat
  | .hbm => 123
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x64x512x128, .bf16⟩
  | .hbm, ⟨2, _⟩ => ⟨S2x8192x512, .bf16⟩
  | .hbm, ⟨3, _⟩ => ⟨S2x2x512x128, .bf16⟩
  | .hbm, ⟨4, _⟩ => ⟨S2x256x512, .bf16⟩
  | .hbm, ⟨5, _⟩ => ⟨S1x8x15x31, .f32⟩
  | .hbm, ⟨6, _⟩ => ⟨S2x8192x512, .f32⟩
  | .hbm, ⟨7, _⟩ => ⟨S2x8192x512, .f32⟩
  | .hbm, ⟨8, _⟩ => ⟨S2x256x512, .f32⟩
  | .hbm, ⟨9, _⟩ => ⟨S2x64x512x128, .f32⟩
  | .hbm, ⟨10, _⟩ => ⟨S2x64x128x512, .f32⟩
  | .hbm, ⟨11, _⟩ => ⟨S2x8192x512, .f32⟩
  | .hbm, ⟨12, _⟩ => ⟨S2x2x512x128, .f32⟩
  | .hbm, ⟨13, _⟩ => ⟨S2x2x128x512, .f32⟩
  | .hbm, ⟨14, _⟩ => ⟨S2x256x512, .f32⟩
  | .hbm, ⟨15, _⟩ => ⟨S128, .i32⟩
  | .hbm, ⟨16, _⟩ => ⟨S64, .i32⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128x1, .i32⟩
  | .hbm, ⟨29, _⟩ => ⟨S8, .i32⟩
  | .hbm, ⟨30, _⟩ => ⟨S1x8, .i32⟩
  | .hbm, ⟨31, _⟩ => ⟨S128x8, .i32⟩
  | .hbm, ⟨32, _⟩ => ⟨S128x8, .i32⟩
  | .hbm, ⟨33, _⟩ => ⟨S128x8, .i32⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S64x1, .i32⟩
  | .hbm, ⟨46, _⟩ => ⟨S16, .i32⟩
  | .hbm, ⟨47, _⟩ => ⟨S1x16, .i32⟩
  | .hbm, ⟨48, _⟩ => ⟨S64x16, .i32⟩
  | .hbm, ⟨49, _⟩ => ⟨S64x16, .i32⟩
  | .hbm, ⟨50, _⟩ => ⟨S64x16, .i32⟩
  | .hbm, ⟨51, _⟩ => ⟨S128x1, .i32⟩
  | .hbm, ⟨52, _⟩ => ⟨S128x8, .i32⟩
  | .hbm, ⟨53, _⟩ => ⟨S128x8, .i32⟩
  | .hbm, ⟨54, _⟩ => ⟨S_, .i32⟩
  | .hbm, ⟨55, _⟩ => ⟨S128x8, .i32⟩
  | .hbm, ⟨56, _⟩ => ⟨S128x8, .i32⟩
  | .hbm, ⟨57, _⟩ => ⟨S64x1, .i32⟩
  | .hbm, ⟨58, _⟩ => ⟨S64x16, .i32⟩
  | .hbm, ⟨59, _⟩ => ⟨S64x16, .i32⟩
  | .hbm, ⟨60, _⟩ => ⟨S_, .i32⟩
  | .hbm, ⟨61, _⟩ => ⟨S64x16, .i32⟩
  | .hbm, ⟨62, _⟩ => ⟨S64x16, .i32⟩
  | .hbm, ⟨63, _⟩ => ⟨S128x1x8x1, .i32⟩
  | .hbm, ⟨64, _⟩ => ⟨S_, .i32⟩
  | .hbm, ⟨65, _⟩ => ⟨S128x1x8x1, .i32⟩
  | .hbm, ⟨66, _⟩ => ⟨S128x1x8x1, .i32⟩
  | .hbm, ⟨67, _⟩ => ⟨S1x64x1x16, .i32⟩
  | .hbm, ⟨68, _⟩ => ⟨S128x64x8x16, .i32⟩
  | .hbm, ⟨69, _⟩ => ⟨S128x64x8x16, .i32⟩
  | .hbm, ⟨70, _⟩ => ⟨S128x64x8x16, .i32⟩
  | .hbm, ⟨71, _⟩ => ⟨S8192x128, .i32⟩
  | .hbm, ⟨72, _⟩ => ⟨S8x15x31, .f32⟩
  | .hbm, ⟨73, _⟩ => ⟨S8x465, .f32⟩
  | .hbm, ⟨74, _⟩ => ⟨S128x1x8x1, .i32⟩
  | .hbm, ⟨75, _⟩ => ⟨S_, .i32⟩
  | .hbm, ⟨76, _⟩ => ⟨S128x1x8x1, .i32⟩
  | .hbm, ⟨77, _⟩ => ⟨S128x1x8x1, .i32⟩
  | .hbm, ⟨78, _⟩ => ⟨S1x64x1x16, .i32⟩
  | .hbm, ⟨79, _⟩ => ⟨S128x64x8x16, .i32⟩
  | .hbm, ⟨80, _⟩ => ⟨S128x64x8x16, .i32⟩
  | .hbm, ⟨81, _⟩ => ⟨S128x64x8x16, .i32⟩
  | .hbm, ⟨82, _⟩ => ⟨S8192x128, .i32⟩
  | .hbm, ⟨83, _⟩ => ⟨S8192x128x1, .i32⟩
  | .hbm, ⟨84, _⟩ => ⟨S8x8192x128, .f32⟩
  | .hbm, ⟨85, _⟩ => ⟨S8192x128x1, .i32⟩
  | .hbm, ⟨86, _⟩ => ⟨S2x8192x128x512, .f32⟩
  | .hbm, ⟨87, _⟩ => ⟨S2x8192x128x8x64, .f32⟩
  | .hbm, ⟨88, _⟩ => ⟨S8192x128x1, .i32⟩
  | .hbm, ⟨89, _⟩ => ⟨S2x8192x128x512, .f32⟩
  | .hbm, ⟨90, _⟩ => ⟨S2x8192x128x8x64, .f32⟩
  | .hbm, ⟨91, _⟩ => ⟨S2x8192x8x64, .f32⟩
  | .hbm, ⟨92, _⟩ => ⟨S2x8x8192x128, .f32⟩
  | .hbm, ⟨93, _⟩ => ⟨S1x8x8192x128, .f32⟩
  | .hbm, ⟨94, _⟩ => ⟨S2x8x8192x128, .f32⟩
  | .hbm, ⟨95, _⟩ => ⟨S2x8x8192x128, .f32⟩
  | .hbm, ⟨96, _⟩ => ⟨S2x8192x8x64, .f32⟩
  | .hbm, ⟨97, _⟩ => ⟨S2x256x8x64, .f32⟩
  | .hbm, ⟨98, _⟩ => ⟨S2x8x8192x256, .f32⟩
  | .hbm, ⟨99, _⟩ => ⟨S2x8x8192x384, .f32⟩
  | .hbm, ⟨100, _⟩ => ⟨S_, .f32⟩
  | .hbm, ⟨101, _⟩ => ⟨S2x8x8192, .f32⟩
  | .hbm, ⟨102, _⟩ => ⟨S_, .f32⟩
  | .hbm, ⟨103, _⟩ => ⟨S2x8x8192, .f32⟩
  | .hbm, ⟨104, _⟩ => ⟨S2x8x8192, .f32⟩
  | .hbm, ⟨105, _⟩ => ⟨S2x8x8192x1, .f32⟩
  | .hbm, ⟨106, _⟩ => ⟨S2x8x8192x384, .f32⟩
  | .hbm, ⟨107, _⟩ => ⟨S2x8x8192x384, .f32⟩
  | .hbm, ⟨108, _⟩ => ⟨S2x8x8192x384, .f32⟩
  | .hbm, ⟨109, _⟩ => ⟨S_, .f32⟩
  | .hbm, ⟨110, _⟩ => ⟨S2x8x8192, .f32⟩
  | .hbm, ⟨111, _⟩ => ⟨S2x8x8192x1, .f32⟩
  | .hbm, ⟨112, _⟩ => ⟨S2x8x8192x384, .f32⟩
  | .hbm, ⟨113, _⟩ => ⟨S2x8x8192x384, .f32⟩
  | .hbm, ⟨114, _⟩ => ⟨S2x8x8192x128, .f32⟩
  | .hbm, ⟨115, _⟩ => ⟨S2x8192x8x64, .f32⟩
  | .hbm, ⟨116, _⟩ => ⟨S2x8x8192x256, .f32⟩
  | .hbm, ⟨117, _⟩ => ⟨S2x256x8x64, .f32⟩
  | .hbm, ⟨118, _⟩ => ⟨S2x8x64x8192, .f32⟩
  | .hbm, ⟨119, _⟩ => ⟨S2x8192x8x64, .f32⟩
  | .hbm, ⟨120, _⟩ => ⟨S2x8192x8x64, .f32⟩
  | .hbm, ⟨121, _⟩ => ⟨S2x8192x512, .f32⟩
  | .hbm, ⟨122, _⟩ => ⟨S2x8192x512, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call2_v0 : Ref sig .tc := ⟨.hbm, 83, rfl⟩
abbrev main_v57 : Ref sig .tc := ⟨.hbm, 84, rfl⟩
abbrev main_call3_v0 : Ref sig .tc := ⟨.hbm, 85, rfl⟩
abbrev main_v58 : Ref sig .tc := ⟨.hbm, 86, rfl⟩
abbrev main_v59 : Ref sig .tc := ⟨.hbm, 87, rfl⟩
abbrev main_call4_v0 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_10 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1x1024 : Shape := ⟨3, ![2, 1, 1024]⟩
abbrev S1x1024 : Shape := ⟨2, ![1, 1024]⟩
abbrev S1x1024x4096 : Shape := ⟨3, ![1, 1024, 4096]⟩
abbrev S2x2x512 : Shape := ⟨3, ![2, 2, 512]⟩
abbrev S1024x4096 : Shape := ⟨2, ![1024, 4096]⟩
abbrev S2x1024 : Shape := ⟨2, ![2, 1024]⟩
abbrev S1024 : Shape := ⟨1, ![1024]⟩
abbrev S2x8192x512 : Shape := ⟨3, ![2, 8192, 512]⟩
abbrev S2x64x512x128 : Shape := ⟨4, ![2, 64, 512, 128]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1x8x512x128 : Shape := ⟨4, ![1, 8, 512, 128]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩
abbrev S512x128 : Shape := ⟨2, ![512, 128]⟩
abbrev S1x1x512x128 : Shape := ⟨4, ![1, 1, 512, 128]⟩
abbrev S1x512 : Shape := ⟨2, ![1, 512]⟩

abbrev nBuf : Space → Nat
  | .hbm => 19
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1x1024x4096, .f32⟩
  | .hbm, ⟨5, _⟩ => ⟨S2x2x512, .f32⟩
  | .hbm, ⟨6, _⟩ => ⟨S1024x4096, .f32⟩
  | .hbm, ⟨7, _⟩ => ⟨S1024x4096, .bf16⟩
  | .hbm, ⟨8, _⟩ => ⟨S2x1024, .f32⟩
  | .hbm, ⟨9, _⟩ => ⟨S1024, .f32⟩
  | .hbm, ⟨10, _⟩ => ⟨S1x1024, .f32⟩
  | .hbm, ⟨11, _⟩ => ⟨S2x8192x512, .bf16⟩
  | .hbm, ⟨12, _⟩ => ⟨S2x64x512x128, .bf16⟩
  | .hbm, ⟨13, _⟩ => ⟨S2x8192x512, .bf16⟩
  | .hbm, ⟨14, _⟩ => ⟨S2x8192x512, .bf16⟩
  | .hbm, ⟨15, _⟩ => ⟨S2x8192x512, .f32⟩
  | .hbm, ⟨16, _⟩ => ⟨S2x8192x512, .f32⟩
  | .hbm, ⟨17, _⟩ => ⟨S2x8192x512, .bf16⟩
  | .hbm, ⟨18, _⟩ => ⟨S2x8192x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x4096, .bf16⟩
  | .local _ .vmem, ⟨8, _⟩ => ⟨S2x1024, .f32⟩
  | .local _ .vmem, ⟨9, _⟩ => ⟨S1x1024x512, .bf16⟩
  | .local _ .vmem, ⟨10, _⟩ => ⟨S1x1024x512, .bf16⟩
  | .local _ .vmem, ⟨11, _⟩ => ⟨S1x8x512x128, .bf16⟩
  | .local _ .vmem, ⟨12, _⟩ => ⟨S1x8x512x128, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .f32⟩
  | .local _ .vmem, ⟨18, _⟩ => ⟨S1x1024x512, .f32⟩
  | .local _ .vmem, ⟨19, _⟩ => ⟨S1x1024x512, .f32⟩
  | .local _ .vmem, ⟨20, _⟩ => ⟨S1x1024x512, .f32⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev main_v5_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S2x8192x1024 : Shape := ⟨3, ![2, 8192, 1024]⟩
abbrev S2x1x1024 : Shape := ⟨3, ![2, 1, 1024]⟩
abbrev S1x1024 : Shape := ⟨2, ![1, 1024]⟩
abbrev S1x1024x4096 : Shape := ⟨3, ![1, 1024, 4096]⟩
abbrev S2x2x512 : Shape := ⟨3, ![2, 2, 512]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1024x4096 : Shape := ⟨2, ![1024, 4096]⟩
abbrev S2x8192x4096 : Shape := ⟨3, ![2, 8192, 4096]⟩
abbrev S2x8192x512 : Shape := ⟨3, ![2, 8192, 512]⟩
abbrev S2x512 : Shape := ⟨2, ![2, 512]⟩
abbrev S1x2x512 : Shape := ⟨3, ![1, 2, 512]⟩
abbrev S2x64x128x512 : Shape := ⟨4, ![2, 64, 128, 512]⟩
abbrev S2x64x512x128 : Shape := ⟨4, ![2, 64, 512, 128]⟩
abbrev S1x512 : Shape := ⟨2, ![1, 512]⟩
abbrev S512 : Shape := ⟨1, ![512]⟩
abbrev S1x1x512 : Shape := ⟨3, ![1, 1, 512]⟩

abbrev nBuf : Space → Nat
  | .hbm => 128
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1x1024x4096, .f32⟩
  | .hbm, ⟨5, _⟩ => ⟨S2x2x512, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S1024x4096, .f32⟩
  | .hbm, ⟨31, _⟩ => ⟨S2x8192x4096, .f32⟩
  | .hbm, ⟨32, _⟩ => ⟨S2x8192x512, .f32⟩
  | .hbm, ⟨33, _⟩ => ⟨S2x8192x512, .f32⟩
  | .hbm, ⟨34, _⟩ => ⟨S2x8192x512, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S_, .f32⟩
  | .hbm, ⟨41, _⟩ => ⟨S2x512, .f32⟩
  | .hbm, ⟨42, _⟩ => ⟨S_, .f32⟩
  | .hbm, ⟨43, _⟩ => ⟨S2x512, .f32⟩
  | .hbm, ⟨44, _⟩ => ⟨S2x512, .f32⟩
  | .hbm, ⟨45, _⟩ => ⟨S1x2x512, .f32⟩
  | .hbm, ⟨46, _⟩ => ⟨S2x2x512, .f32⟩
  | .hbm, ⟨47, _⟩ => ⟨S2x2x512, .f32⟩
  | .hbm, ⟨48, _⟩ => ⟨S2x2x512, .f32⟩
  | .hbm, ⟨49, _⟩ => ⟨S_, .f32⟩
  | .hbm, ⟨50, _⟩ => ⟨S2x512, .f32⟩
  | .hbm, ⟨51, _⟩ => ⟨S1x2x512, .f32⟩
  | .hbm, ⟨52, _⟩ => ⟨S2x2x512, .f32⟩
  | .hbm, ⟨53, _⟩ => ⟨S2x2x512, .f32⟩
  | .hbm, ⟨54, _⟩ => ⟨S_, .f32⟩
  | .hbm, ⟨55, _⟩ => ⟨S_, .f32⟩
  | .hbm, ⟨56, _⟩ => ⟨S2x2x512, .f32⟩
  | .hbm, ⟨57, _⟩ => ⟨S1x2x512, .f32⟩
  | .hbm, ⟨58, _⟩ => ⟨S2x512, .f32⟩
  | .hbm, ⟨59, _⟩ => ⟨S2x64x128x512, .f32⟩
  | .hbm, ⟨60, _⟩ => ⟨S2x64x512x128, .f32⟩
  | .hbm, ⟨61, _⟩ => ⟨S_, .f32⟩
  | .hbm, ⟨62, _⟩ => ⟨S2x8192x512, .f32⟩
  | .hbm, ⟨63, _⟩ => ⟨S2x8192x512, .f32⟩
  | .hbm, ⟨64, _⟩ => ⟨S2x8192x512, .bf16⟩
  | .hbm, ⟨65, _⟩ => ⟨S2x64x512x128, .bf16⟩
  | .hbm, ⟨66, _⟩ => ⟨S2x8192x512, .bf16⟩
  | .hbm, ⟨67, _⟩ => ⟨S2x8192x512, .f32⟩
  | .hbm, ⟨68, _⟩ => ⟨S2x8192x512, .f32⟩
  | .hbm, ⟨69, _⟩ => ⟨S_, .f32⟩
  | .hbm, ⟨70, _⟩ => ⟨S2x8192x512, .f32⟩
  | .hbm, ⟨71, _⟩ => ⟨S2x8192x512, .f32⟩
  | .hbm, ⟨72, _⟩ => ⟨S_, .f32⟩
  | .hbm, ⟨73, _⟩ => ⟨S2x8192x512, .f32⟩
  | .hbm, ⟨74, _⟩ => ⟨S2x8192x512, .f32⟩
  | .hbm, ⟨75, _⟩ => ⟨S2x8192x512, .f32⟩
  | .hbm, ⟨76, _⟩ => ⟨S2x8192x512, .bf16⟩
  | .hbm, ⟨77, _⟩ => ⟨S1x512, .f32⟩
  | .hbm, ⟨78, _⟩ => ⟨S512, .f32⟩
  | .hbm, ⟨79, _⟩ => ⟨S_, .f32⟩
  | .hbm, ⟨80, _⟩ => ⟨S512, .f32⟩
  | .hbm, ⟨81, _⟩ => ⟨S512, .f32⟩
  | .hbm, ⟨82, _⟩ => ⟨S2x8192x512, .f32⟩
  | .hbm, ⟨83, _⟩ => ⟨S2x8192x512, .f32⟩
  | .hbm, ⟨84, _⟩ => ⟨S_, .f32⟩
  | .hbm, ⟨85, _⟩ => ⟨S2x8192x512, .f32⟩
  | .hbm, ⟨86, _⟩ => ⟨S2x8192x512, .f32⟩
  | .hbm, ⟨87, _⟩ => ⟨S_, .f32⟩
  | .hbm, ⟨88, _⟩ => ⟨S2x8192x512, .f32⟩
  | .hbm, ⟨89, _⟩ => ⟨S2x8192x512, .f32⟩
  | .hbm, ⟨90, _⟩ => ⟨S1x1x512, .f32⟩
  | .hbm, ⟨91, _⟩ => ⟨S2x8192x512, .f32⟩
  | .hbm, ⟨92, _⟩ => ⟨S2x8192x512, .f32⟩
  | .hbm, ⟨93, _⟩ => ⟨S1x1x512, .f32⟩
  | .hbm, ⟨94, _⟩ => ⟨S2x8192x512, .f32⟩
  | .hbm, ⟨95, _⟩ => ⟨S2x8192x512, .f32⟩
  | .hbm, ⟨96, _⟩ => ⟨S2x8192x512, .f32⟩
  | .hbm, ⟨97, _⟩ => ⟨S1x512, .f32⟩
  | .hbm, ⟨98, _⟩ => ⟨S512, .f32⟩
  | .hbm, ⟨99, _⟩ => ⟨S_, .f32⟩
  | .hbm, ⟨100, _⟩ => ⟨S512, .f32⟩
  | .hbm, ⟨101, _⟩ => ⟨S512, .f32⟩
  | .hbm, ⟨102, _⟩ => ⟨S2x8192x512, .f32⟩
  | .hbm, ⟨103, _⟩ => ⟨S2x8192x512, .f32⟩
  | .hbm, ⟨104, _⟩ => ⟨S_, .f32⟩
  | .hbm, ⟨105, _⟩ => ⟨S2x8192x512, .f32⟩
  | .hbm, ⟨106, _⟩ => ⟨S2x8192x512, .f32⟩
  | .hbm, ⟨107, _⟩ => ⟨S_, .f32⟩
  | .hbm, ⟨108, _⟩ => ⟨S2x8192x512, .f32⟩
  | .hbm, ⟨109, _⟩ => ⟨S2x8192x512, .f32⟩
  | .hbm, ⟨110, _⟩ => ⟨S1x1x512, .f32⟩
  | .hbm, ⟨111, _⟩ => ⟨S2x8192x512, .f32⟩
  | .hbm, ⟨112, _⟩ => ⟨S2x8192x512, .f32⟩
  | .hbm, ⟨113, _⟩ => ⟨S1x1x512, .f32⟩
  | .hbm, ⟨114, _⟩ => ⟨S2x8192x512, .f32⟩
  | .hbm, ⟨115, _⟩ => ⟨S2x8192x512, .f32⟩
  | .hbm, ⟨116, _⟩ => ⟨S2x8192x512, .f32⟩
  | .hbm, ⟨117, _⟩ => ⟨S2x8192x512, .bf16⟩
  | .hbm, ⟨118, _⟩ => ⟨S2x8192x512, .f32⟩
  | .hbm, ⟨119, _⟩ => ⟨S2x8192x512, .f32⟩
  | .hbm, ⟨120, _⟩ => ⟨S_, .f32⟩
  | .hbm, ⟨121, _⟩ => ⟨S2x8192x512, .f32⟩
  | .hbm, ⟨122, _⟩ => ⟨S2x8192x512, .f32⟩
  | .hbm, ⟨123, _⟩ => ⟨S_, .f32⟩
  | .hbm, ⟨124, _⟩ => ⟨S2x8192x512, .f32⟩
  | .hbm, ⟨125, _⟩ => ⟨S2x8192x512, .f32⟩
  | .hbm, ⟨126, _⟩ => ⟨S2x8192x512, .f32⟩
  | .hbm, ⟨127, _⟩ => ⟨S2x8192x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_call0_cst : Ref sig .tc := ⟨.hbm, 54, rfl⟩
abbrev main_call0_call0_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_8 : Ref sig .tc := ⟨.hbm, 84, rfl⟩
abbrev main_v59 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_10 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_11 : Ref sig .tc := ⟨.hbm, 104, rfl⟩
abbrev main_v76 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_call2_v0 : Ref sig .tc := ⟨.hbm, 118, rfl⟩
abbrev main_call2_v1 : Ref sig .tc := ⟨.hbm, 119, rfl⟩
abbrev main_call2_cst : Ref sig .tc := ⟨.hbm, 120, rfl⟩
abbrev main_call2_v2 : Ref sig .tc := ⟨.hbm, 121, rfl⟩
abbrev main_call2_v3 : Ref sig .tc := ⟨.hbm, 122, rfl⟩
abbrev main_call2_cst_0 : Ref sig .tc := ⟨.hbm, 123, rfl⟩
abbrev main_call2_v4 : Ref sig .tc := ⟨.hbm, 124, rfl⟩
abbrev main_call2_v5 : Ref sig .tc := ⟨.hbm, 125, rfl⟩
abbrev main_v88 : Ref sig .tc := ⟨.hbm, 126, rfl⟩
abbrev main_v89 : Ref sig .tc := ⟨.hbm, 127, rfl⟩

abbrev nD : Nat := 1
abbrev τ : Topo := Topo.v7x

variable {F : FTy → Type} [FloatOps F]
-- ==== Kernel3.lean ====
abbrev S2x8192x512 : Shape := ⟨3, ![2, 8192, 512]⟩
abbrev S1x128 : Shape := ⟨2, ![1, 128]⟩
abbrev S1x1024x1024 : Shape := ⟨3, ![1, 1024, 1024]⟩
abbrev S2x8192x1024 : Shape := ⟨3, ![2, 8192, 1024]⟩
abbrev S2x1x1024 : Shape := ⟨3, ![2, 1, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S128 : Shape := ⟨1, ![128]⟩
abbrev S1024 : Shape := ⟨1, ![1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x2816 : Shape := ⟨2, ![512, 2816]⟩
abbrev S1024x1024 : Shape := ⟨2, ![1024, 1024]⟩
abbrev S1024x5632 : Shape := ⟨2, ![1024, 5632]⟩
abbrev S2816x1024 : Shape := ⟨2, ![2816, 1024]⟩
abbrev S3x1024x256 : Shape := ⟨3, ![3, 1024, 256]⟩
abbrev S3x256x1024 : Shape := ⟨3, ![3, 256, 1024]⟩
abbrev S3 : Shape := ⟨1, ![3]⟩
abbrev S1 : Shape := ⟨1, ![1]⟩
abbrev S_ : Shape := ⟨0, ![]⟩
abbrev S1x256x1024 : Shape := ⟨3, ![1, 256, 1024]⟩
abbrev S1x1024x256 : Shape := ⟨3, ![1, 1024, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x1024 : Shape := ⟨2, ![256, 1024]⟩
abbrev S512x1024 : Shape := ⟨2, ![512, 1024]⟩
abbrev S1024x256 : Shape := ⟨2, ![1024, 256]⟩
abbrev S512x256 : Shape := ⟨2, ![512, 256]⟩

abbrev nBuf : Space → Nat
  | .hbm => 25
  | .vmem => 30
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .f32⟩
  | .hbm, ⟨2, _⟩ => ⟨S2x8192x512, .f32⟩
  | .hbm, ⟨3, _⟩ => ⟨S2x8192x512, .bf16⟩
  | .hbm, ⟨4, _⟩ => ⟨S1x128, .f32⟩
  | .hbm, ⟨5, _⟩ => ⟨S1x1024x1024, .f32⟩
  | .hbm, ⟨6, _⟩ => ⟨S2x8192x1024, .f32⟩
  | .hbm, ⟨7, _⟩ => ⟨S2x1x1024, .f32⟩
  | .hbm, ⟨8, _⟩ => ⟨S1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S1x1024, .f32⟩
  | .hbm, ⟨13, _⟩ => ⟨S1x1024, .f32⟩
  | .hbm, ⟨14, _⟩ => ⟨S1x1024x5632, .f32⟩
  | .hbm, ⟨15, _⟩ => ⟨S1x2816x1024, .f32⟩
  | .hbm, ⟨16, _⟩ => ⟨S128, .f32⟩
  | .hbm, ⟨17, _⟩ => ⟨S1x128, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S2x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x128, .f32⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | .local _ .vmem, ⟨24, _⟩ => ⟨S512x2816, .bf16⟩
  | .local _ .vmem, ⟨25, _⟩ => ⟨S1024x1024, .bf16⟩
  | .local _ .vmem, ⟨26, _⟩ => ⟨S1024x5632, .bf16⟩
  | .local _ .vmem, ⟨27, _⟩ => ⟨S2816x1024, .bf16⟩
  | .local _ .vmem, ⟨28, _⟩ => ⟨S3x1024x256, .f32⟩
  | .local _ .vmem, ⟨29, _⟩ => ⟨S3x256x1024, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v5 : BitVec 1 := Scalar.xori v2 v_true
  let v6 : BitVec 32 := Scalar.extui v5
  let c0_i32_2 : BitVec 32 := 0#32
  let v7 : BitVec 1 := Scalar.cmpi .ne v6 c0_i32_2
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S2x8192x512 : Shape := ⟨3, ![2, 8192, 512]⟩
abbrev S1x128 : Shape := ⟨2, ![1, 128]⟩
abbrev S1x1024x1024 : Shape := ⟨3, ![1, 1024, 1024]⟩
abbrev S2x8192x1024 : Shape := ⟨3, ![2, 8192, 1024]⟩
abbrev S2x1x1024 : Shape := ⟨3, ![2, 1, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S2x8192x4x128 : Shape := ⟨4, ![2, 8192, 4, 128]⟩
abbrev S128 : Shape := ⟨1, ![128]⟩
abbrev S_ : Shape := ⟨0, ![]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S1024x1024 : Shape := ⟨2, ![1024, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S2x8192x2816 : Shape := ⟨3, ![2, 8192, 2816]⟩
abbrev S2816x1024 : Shape := ⟨2, ![2816, 1024]⟩

abbrev nBuf : Space → Nat
  | .hbm => 122
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .f32⟩
  | .hbm, ⟨2, _⟩ => ⟨S2x8192x512, .f32⟩
  | .hbm, ⟨3, _⟩ => ⟨S2x8192x512, .bf16⟩
  | .hbm, ⟨4, _⟩ => ⟨S1x128, .f32⟩
  | .hbm, ⟨5, _⟩ => ⟨S1x1024x1024, .f32⟩
  | .hbm, ⟨6, _⟩ => ⟨S2x8192x1024, .f32⟩
  | .hbm, ⟨7, _⟩ => ⟨S2x1x1024, .f32⟩
  | .hbm, ⟨8, _⟩ => ⟨S1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S1x1024, .f32⟩
  | .hbm, ⟨13, _⟩ => ⟨S1x1024, .f32⟩
  | .hbm, ⟨14, _⟩ => ⟨S1x1024x5632, .f32⟩
  | .hbm, ⟨15, _⟩ => ⟨S1x2816x1024, .f32⟩
  | .hbm, ⟨16, _⟩ => ⟨S2x8192x512, .f32⟩
  | .hbm, ⟨17, _⟩ => ⟨S2x8192x4x128, .f32⟩
  | .hbm, ⟨18, _⟩ => ⟨S128, .f32⟩
  | .hbm, ⟨19, _⟩ => ⟨S2x8192x4x128, .f32⟩
  | .hbm, ⟨20, _⟩ => ⟨S_, .f32⟩
  | .hbm, ⟨21, _⟩ => ⟨S2x8192x4, .f32⟩
  | .hbm, ⟨22, _⟩ => ⟨S2x8192x4x1, .f32⟩
  | .hbm, ⟨23, _⟩ => ⟨S_, .f32⟩
  | .hbm, ⟨24, _⟩ => ⟨S2x8192x4x1, .f32⟩
  | .hbm, ⟨25, _⟩ => ⟨S2x8192x4x1, .f32⟩
  | .hbm, ⟨26, _⟩ => ⟨S_, .f32⟩
  | .hbm, ⟨27, _⟩ => ⟨S2x8192x4x1, .f32⟩
  | .hbm, ⟨28, _⟩ => ⟨S2x8192x4x1, .f32⟩
  | .hbm, ⟨29, _⟩ => ⟨S2x8192x4x1, .f32⟩
  | .hbm, ⟨30, _⟩ => ⟨S2x8192x4x128, .f32⟩
  | .hbm, ⟨31, _⟩ => ⟨S2x8192x4x128, .f32⟩
  | .hbm, ⟨32, _⟩ => ⟨S1x1x1x128, .f32⟩
  | .hbm, ⟨33, _⟩ => ⟨S2x8192x4x128, .f32⟩
  | .hbm, ⟨34, _⟩ => ⟨S2x8192x4x128, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S2x8192x512, .f32⟩
  | .hbm, ⟨39, _⟩ => ⟨S2x8192x1024, .f32⟩
  | .hbm, ⟨40, _⟩ => ⟨S1024x1024, .f32⟩
  | .hbm, ⟨41, _⟩ => ⟨S2x8192x1024, .f32⟩
  | .hbm, ⟨42, _⟩ => ⟨S1024, .f32⟩
  | .hbm, ⟨43, _⟩ => ⟨S2x8192x1024, .f32⟩
  | .hbm, ⟨44, _⟩ => ⟨S_, .f32⟩
  | .hbm, ⟨45, _⟩ => ⟨S2x8192, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1, .f32⟩
  | .hbm, ⟨54, _⟩ => ⟨S2x8192x1024, .f32⟩
  | .hbm, ⟨55, _⟩ => ⟨S2x8192x1024, .f32⟩
  | .hbm, ⟨56, _⟩ => ⟨S1x1x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S1x1x1024, .f32⟩
  | .hbm, ⟨77, _⟩ => ⟨S2x8192x1024, .f32⟩
  | .hbm, ⟨78, _⟩ => ⟨S2x8192x1024, .f32⟩
  | .hbm, ⟨79, _⟩ => ⟨S_, .f32⟩
  | .hbm, ⟨80, _⟩ => ⟨S2x1x1024, .f32⟩
  | .hbm, ⟨81, _⟩ => ⟨S2x1x1024, .f32⟩
  | .hbm, ⟨82, _⟩ => ⟨S2x8192x1024, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S1024x5632, .f32⟩
  | .hbm, ⟨87, _⟩ => ⟨S2x8192x5632, .f32⟩
  | .hbm, ⟨88, _⟩ => ⟨S2x8192x2816, .f32⟩
  | .hbm, ⟨89, _⟩ => ⟨S2x8192x2816, .f32⟩
  | .hbm, ⟨90, _⟩ => ⟨S2x8192x2816, .f32⟩
  | .hbm, ⟨91, _⟩ => ⟨S2x8192x2816, .f32⟩
  | .hbm, ⟨92, _⟩ => ⟨S_, .f32⟩
  | .hbm, ⟨93, _⟩ => ⟨S2x8192x2816, .f32⟩
  | .hbm, ⟨94, _⟩ => ⟨S2x8192x2816, .f32⟩
  | .hbm, ⟨95, _⟩ => ⟨S_, .f32⟩
  | .hbm, ⟨96, _⟩ => ⟨S2x8192x2816, .f32⟩
  | .hbm, ⟨97, _⟩ => ⟨S2x8192x2816, .f32⟩
  | .hbm, ⟨98, _⟩ => ⟨S2x8192x2816, .f32⟩
  | .hbm, ⟨99, _⟩ => ⟨S2x8192x2816, .f32⟩
  | .hbm, ⟨100, _⟩ => ⟨S2816x1024, .f32⟩
  | .hbm, ⟨101, _⟩ => ⟨S2x8192x1024, .f32⟩
  | .hbm, ⟨102, _⟩ => ⟨S1024, .f32⟩
  | .hbm, ⟨103, _⟩ => ⟨S2x8192x1024, .f32⟩
  | .hbm, ⟨104, _⟩ => ⟨S_, .f32⟩
  | .hbm, ⟨105, _⟩ => ⟨S2x8192, .f32⟩
  | .hbm, ⟨106, _⟩ => ⟨S2x8192x1, .f32⟩
  | .hbm, ⟨107, _⟩ => ⟨S_, .f32⟩
  | .hbm, ⟨108, _⟩ => ⟨S2x8192x1, .f32⟩
  | .hbm, ⟨109, _⟩ => ⟨S2x8192x1, .f32⟩
  | .hbm, ⟨110, _⟩ => ⟨S_, .f32⟩
  | .hbm, ⟨111, _⟩ => ⟨S2x8192x1, .f32⟩
  | .hbm, ⟨112, _⟩ => ⟨S2x8192x1, .f32⟩
  | .hbm, ⟨113, _⟩ => ⟨S2x8192x1, .f32⟩
  | .hbm, ⟨114, _⟩ => ⟨S2x8192x1024, .f32⟩
  | .hbm, ⟨115, _⟩ => ⟨S2x8192x1024, .f32⟩
  | .hbm, ⟨116, _⟩ => ⟨S1x1x1024, .f32⟩
  | .hbm, ⟨117, _⟩ => ⟨S2x8192x1024, .f32⟩
  | .hbm, ⟨118, _⟩ => ⟨S2x8192x1024, .f32⟩
  | .hbm, ⟨119, _⟩ => ⟨S2x8192x1024, .f32⟩
  | .hbm, ⟨120, _⟩ => ⟨S2x8192x1024, .f32⟩
  | .hbm, ⟨121, _⟩ => ⟨S2x8192x1024, .f32⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_call0_v5 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_9 : Ref sig .tc := ⟨.hbm, 104, rfl⟩
abbrev main_v70 : Ref sig .tc := ⟨.hbm, 105, rfl⟩
abbrev main_v71 : Ref sig .tc := ⟨.hbm, 106, rfl⟩
abbrev main_cst_10 : Ref sig .tc := ⟨.hbm, 107, rfl⟩
abbrev main_v72 : Ref sig .tc := ⟨.hbm, 108, rfl⟩
abbrev main_v73 : Ref sig .tc := ⟨.hbm, 109, rfl⟩
abbrev main_cst_11 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]
-- ==== Proof.Unit.lean ====
/- ONE ATTENTION UNIT OF THE KERNEL'S BODY, READ AT AN INDEX.  The body treats two pairs of query rows and two groups of four
   heads, each by the same operations; `unit` is that composition as one function of the blocks it loads, and `unit_apply`
   reads it: the queries stand four times under one another, each copy masked to one head's lanes, so that a row of the
   product is one head's logits; the four copies are added after the other heads' lanes have been masked away. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.Na

open Cert.KernelIdeal Cert.KernelIdeal.Gen
open Idealize.ShloMosaic Idealize.ShloMosaic.TcCoe Idealize.SL.Sem

/-- Which lanes belong to which copy of the queries: row copy and lane's head agree. -/
def diag : IVec S512x256 1 := k1_pay7 k1_pay2 k1_pay3 k1_pay4 k1_pay5 k1_pay6

/-- The logits against the window: the product of the masked queries and five loaded key blocks, and the bias. -/
def winLogits (q : Vec Ideal S1x128x256 .bf16) (k : Fin 5 → Vec Ideal S1x1x256x128 .bf16)
    (b : Vec Ideal S1x1x512x640 .f32) : FVec Ideal S512x640 .f32 :=
  k1_pay12 diag (k1_pay8 q) (k1_pay9 (k 0)) (k 1) (k 2) (k 3) (k 4) b

/-- The logits against the context. -/
def ctxLogits (q : Vec Ideal S1x128x256 .bf16) (kc : Fin 2 → Vec Ideal S1x1x256x128 .bf16) : FVec Ideal S512x256 .f32 :=
  k1_pay13 (k1_pay10 (kc 0) (kc 1)) (k1_pay11 diag (k1_pay8 q))

/-- The block that one unit stores. -/
def unit (q : Vec Ideal S1x128x256 .bf16) (k : Fin 5 → Vec Ideal S1x1x256x128 .bf16) (v : Vec Ideal S1x640x256 .bf16)
    (kc : Fin 2 → Vec Ideal S1x1x256x128 .bf16) (vc : Vec Ideal S1x256x256 .bf16)
    (b : Vec Ideal S1x1x512x640 .f32) : FVec Ideal S1x128x256 .bf16 :=
  k1_pay35 diag (winLogits q k b) (ctxLogits q kc) (k1_pay32 v) (k1_pay33 (winLogits q k b) (ctxLogits q kc))
    (k1_pay34 (winLogits q k b) (ctxLogits q kc)) vc

/-- The word of a row's copy. -/
theorem diag_row (R : Fin 512) (l : Fin 256) : k1_pay2 (ix2 R l) = BitVec.ofNat 32 (R.val / 128) := by
  have h : ∀ R : Fin 512, k1_pay2 (ix2 R (0 : Fin 256)) = BitVec.ofNat 32 (R.val / 128) := by decide +kernel
  exact (show k1_pay2 (ix2 R l) = k1_pay2 (ix2 R (0 : Fin 256)) from rfl).trans (h R)

/-- The word of a lane's head, as the body computes it: a quotient rounded towards minus infinity. -/
theorem lane_word : ∀ l : Fin 256,
    Scalar.select
      (IntOp.andi
        (IntOp.cmpi CmpIPredicate.ne
          (IntOp.subi (BitVec.setWidth 32 (IntOp.cmpi CmpIPredicate.sgt (BitVec.ofNat 32 l.val) 0#32))
            (BitVec.setWidth 32 (IntOp.cmpi CmpIPredicate.slt (BitVec.ofNat 32 l.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 l.val) 64#32) 0#32))
      (IntOp.subi (IntOp.divsi ArithUnit.vector (BitVec.ofNat 32 l.val) 64#32) 1#32)
      (IntOp.divsi ArithUnit.vector (BitVec.ofNat 32 l.val) 64#32) = BitVec.ofNat 32 (l.val / 64) := by
  decide +kernel

/-- Two small words are equal where their numbers are. -/
theorem word_eq : ∀ a b : Fin 4, IntOp.cmpi CmpIPredicate.eq (BitVec.ofNat 32 a.val) (BitVec.ofNat 32 b.val)
    = if a.val = b.val then 1#1 else 0#1 := by decide +kernel

/-- The mask at an index: one where the row's copy is the lane's head. -/
theorem diag_apply (R : Fin 512) (l : Fin 256) : diag (ix2 R l) = if R.val / 128 = l.val / 64 then 1#1 else 0#1 := by
  unfold diag
  pointwise [k1_pay7, k1_pay3, k1_pay4, k1_pay5, k1_pay6]
  rw [lane_word, diag_row]
  exact word_eq ⟨R.val / 128, by omega⟩ ⟨l.val / 64, by omega⟩

/-- A choice on a mask word is a choice on its condition. -/
theorem select_ite {p : Prop} [Decidable p] (x y : EReal) : Scalar.select (if p then 1#1 else 0#1) x y = if p then x else y := by
  by_cases h : p <;> simp [h, Scalar.select]

/-- The masked queries at an index. -/
theorem masked_apply (q : Vec Ideal S1x128x256 .bf16) (R : Fin 512) (e : Fin 256) :
    k1_pay11 diag (k1_pay8 q) (ix2 R e)
      = if R.val / 128 = e.val / 64 then q (ix3 0 ⟨R.val % 128, Nat.mod_lt _ (by decide)⟩ e) else 0 := by
  pointwise [k1_pay11, k1_pay8, diag_apply]
  rw [select_ite]
  refine if_congr Iff.rfl ?_ rfl
  split_ifs <;> congr 2 <;> apply Fin.ext <;> simp only [] <;> omega

/-- The window's keys at a lane and a place: five blocks side by side. -/
def keyAt (k : Fin 5 → Vec Ideal S1x1x256x128 .bf16) (e : Fin 256) (w : Fin 640) : EReal :=
  k ⟨w.val / 128, by omega⟩ (ix4 0 0 e ⟨w.val % 128, Nat.mod_lt _ (by decide)⟩)

/-- The context's keys at a lane and a place: two blocks side by side. -/
def ctxKeyAt (k : Fin 2 → Vec Ideal S1x1x256x128 .bf16) (e : Fin 256) (w : Fin 256) : EReal :=
  k ⟨w.val / 128, by omega⟩ (ix4 0 0 e ⟨w.val % 128, Nat.mod_lt _ (by decide)⟩)

/-- Two reads of numbered blocks agree where the numbers and the places do. -/
theorem block_congr {n : Nat} (k : Fin n → Vec Ideal S1x1x256x128 .bf16) (a a' : Fin n) (e : Fin 256) (w w' : Fin 128)
    (ha : a.val = a'.val) (hw : w.val = w'.val) : k a (ix4 0 0 e w) = k a' (ix4 0 0 e w') := by
  obtain rfl := Fin.ext ha
  obtain rfl := Fin.ext hw
  rfl

theorem winLogits_row (q : Vec Ideal S1x128x256 .bf16) (k : Fin 5 → Vec Ideal S1x1x256x128 .bf16)
    (b : Vec Ideal S1x1x512x640 .f32) (R : Fin 512) (w : Fin 640) :
    winLogits q k b (ix2 R w)
      = (∑ e : Fin 256, k1_pay11 diag (k1_pay8 q) (ix2 R e) * keyAt k e w) + b (ix4 0 0 R w) := by
  unfold winLogits
  pointwise [k1_pay12]
  refine congrArg (· + _) (Finset.sum_congr rfl fun e _ => congrArg (_ * ·) ?_)
  unfold keyAt
  pointwise [k1_pay9]
  split_ifs <;> (refine block_congr k _ _ e _ _ ?_ ?_ <;> simp <;> omega)

theorem ctxLogits_row (q : Vec Ideal S1x128x256 .bf16) (k : Fin 2 → Vec Ideal S1x1x256x128 .bf16)
    (R : Fin 512) (w : Fin 256) :
    ctxLogits q k (ix2 R w)
      = ∑ e : Fin 256, k1_pay11 diag (k1_pay8 q) (ix2 R e) * ctxKeyAt k e w := by
  unfold ctxLogits
  pointwise [k1_pay13, k1_pay10]
  refine Finset.sum_congr rfl fun e _ => congrArg (_ * ·) ?_
  unfold ctxKeyAt
  split_ifs <;> (refine block_congr k _ _ e _ _ ?_ ?_ <;> simp <;> omega)

/-- Lane `d` of the head that lane `l` belongs to. -/
def lane (l : Fin 256) (d : Fin 64) : Fin 256 := ⟨l.val / 64 * 64 + d.val, by omega⟩

/-- Row `r` of the copy for lane `l`'s head. -/
def copyRow (l : Fin 256) (r : Fin 128) : Fin 512 := ⟨l.val / 64 * 128 + r.val, by omega⟩

/-- A contraction against one head's masked queries is a contraction over that head's lanes. -/
theorem sum_masked (f g : Fin 256 → EReal) (l : Fin 256) (a : Nat) (ha : a = l.val / 64) :
    (∑ e : Fin 256, (if a = e.val / 64 then f e else 0) * g e) = ∑ d : Fin 64, f (lane l d) * g (lane l d) := by
  subst ha
  simp only [ite_mul, zero_mul]
  rw [← Finset.sum_filter]
  refine Finset.sum_nbij' (fun e => ⟨e.val % 64, Nat.mod_lt _ (by decide)⟩) (fun d => lane l d) ?_ ?_ ?_ ?_ ?_
  · intro e _; exact Finset.mem_univ _
  · intro d _
    simp only [Finset.mem_filter, Finset.mem_univ, true_and, lane]; omega
  · intro e he
    simp only [Finset.mem_filter, Finset.mem_univ, true_and] at he
    apply Fin.ext; simp only [lane]; omega
  · intro d _
    apply Fin.ext; simp only [lane]; omega
  · intro e he
    simp only [Finset.mem_filter, Finset.mem_univ, true_and] at he
    have h : lane l ⟨e.val % 64, Nat.mod_lt _ (by decide)⟩ = e := by apply Fin.ext; simp only [lane]; omega
    rw [h]

/-- The window's logits of lane `l`'s head at query row `r`. -/
theorem winLogits_apply (q : Vec Ideal S1x128x256 .bf16) (k : Fin 5 → Vec Ideal S1x1x256x128 .bf16)
    (b : Vec Ideal S1x1x512x640 .f32) (l : Fin 256) (r : Fin 128) (w : Fin 640) :
    winLogits q k b (ix2 (copyRow l r) w)
      = (∑ d : Fin 64, q (ix3 0 r (lane l d)) * keyAt k (lane l d) w) + b (ix4 0 0 (copyRow l r) w) := by
  rw [winLogits_row]
  simp only [masked_apply]
  rw [sum_masked (fun e => q (ix3 0 _ e)) (fun e => keyAt k e w) l _ (by simp only [copyRow]; omega)]
  have h : (⟨(copyRow l r).val % 128, Nat.mod_lt _ (by decide)⟩ : Fin 128) = r := by apply Fin.ext; simp only [copyRow]; omega
  rw [h]

/-- The context's logits of lane `l`'s head at query row `r`. -/
theorem ctxLogits_apply (q : Vec Ideal S1x128x256 .bf16) (k : Fin 2 → Vec Ideal S1x1x256x128 .bf16)
    (l : Fin 256) (r : Fin 128) (w : Fin 256) :
    ctxLogits q k (ix2 (copyRow l r) w) = ∑ d : Fin 64, q (ix3 0 r (lane l d)) * ctxKeyAt k (lane l d) w := by
  rw [ctxLogits_row]
  simp only [masked_apply]
  rw [sum_masked (fun e => q (ix3 0 _ e)) (fun e => ctxKeyAt k e w) l _ (by simp only [copyRow]; omega)]
  have h : (⟨(copyRow l r).val % 128, Nat.mod_lt _ (by decide)⟩ : Fin 128) = r := by apply Fin.ext; simp only [copyRow]; omega
  rw [h]

/-- The attention of one query: exponentials of the logits less their greatest, summed against the values and divided by
    their sum, the keys in two parts. -/
def attend {n k : Nat} (s : Fin n → EReal) (c : Fin k → EReal) (v : Fin n → EReal) (w : Fin k → EReal) : EReal :=
  let M := max (Finset.univ.fold max ⊥ s) (Finset.univ.fold max ⊥ c)
  Ideal.div ((∑ x, Ideal.exp (s x - M) * v x) + ∑ x, Ideal.exp (c x - M) * w x)
    ((∑ x, Ideal.exp (s x - M)) + ∑ x, Ideal.exp (c x - M))

theorem negInf : Ideal.ofBits FTy.f32 0xFF800000#32 = ⊥ := by simp [Ideal.ofBits, Ideal.ieee]

/-- Adding four terms of which one row's alone is kept. -/
theorem sum_kept (a : Fin 4 → EReal) (h : Fin 4) :
    (if (0 : Fin 4) = h then a 0 else 0) + (if (1 : Fin 4) = h then a 1 else 0) + (if (2 : Fin 4) = h then a 2 else 0)
      + (if (3 : Fin 4) = h then a 3 else 0) = a h := by
  fin_cases h <;> simp

theorem out_apply (S : FVec Ideal S512x640 .f32) (C : FVec Ideal S512x256 .f32) (v : Vec Ideal S1x640x256 .bf16)
    (vc : Vec Ideal S1x256x256 .bf16) (r : Fin 128) (l : Fin 256) :
    k1_pay35 diag S C (k1_pay32 v) (k1_pay33 S C) (k1_pay34 S C) vc (ix3 0 r l)
      = attend (fun x => S (ix2 (copyRow l r) x)) (fun x => C (ix2 (copyRow l r) x)) (fun x => v (ix3 0 x l)) (fun x => vc (ix3 0 x l)) := by
  pointwise [k1_pay35, k1_pay32, k1_pay33, k1_pay34, diag_apply]
  simp only [select_ite, negInf]
  refine Eq.trans ?_ (sum_kept (fun h => attend (fun x => S (ix2 ⟨h.val * 128 + r.val, by omega⟩ x)) (fun x => C (ix2 ⟨h.val * 128 + r.val, by omega⟩ x))
    (fun x => v (ix3 0 x l)) (fun x => vc (ix3 0 x l))) ⟨l.val / 64, by omega⟩)
  have e0 : r.val / 128 = l.val / 64 ↔ (0 : Fin 4) = ⟨l.val / 64, by omega⟩ := by rw [Fin.ext_iff]; simp; omega
  have e1 : (128 + r.val) / 128 = l.val / 64 ↔ (1 : Fin 4) = ⟨l.val / 64, by omega⟩ := by rw [Fin.ext_iff]; simp; omega
  have e2 : (256 + r.val) / 128 = l.val / 64 ↔ (2 : Fin 4) = ⟨l.val / 64, by omega⟩ := by rw [Fin.ext_iff]; simp; omega
  have e3 : (384 + r.val) / 128 = l.val / 64 ↔ (3 : Fin 4) = ⟨l.val / 64, by omega⟩ := by rw [Fin.ext_iff]; simp; omega
  have h0 : (⟨(0 : Fin 4).val * 128 + r.val, by omega⟩ : Fin 512) = ⟨r.val, by omega⟩ := by apply Fin.ext; simp
  refine congrArg₂ (· + ·) (congrArg₂ (· + ·) (congrArg₂ (· + ·) (if_congr e0 ?_ rfl) (if_congr e1 ?_ rfl)) (if_congr e2 ?_ rfl)) (if_congr e3 ?_ rfl)
  · simp only [attend, h0]
  · rfl
  · rfl
  · rfl

/-- The unit at an index: row `r` of its queries, lane `l` of its group of heads. -/
theorem unit_apply (q : Vec Ideal S1x128x256 .bf16) (k : Fin 5 → Vec Ideal S1x1x256x128 .bf16) (v : Vec Ideal S1x640x256 .bf16)
    (kc : Fin 2 → Vec Ideal S1x1x256x128 .bf16) (vc : Vec Ideal S1x256x256 .bf16)
    (b : Vec Ideal S1x1x512x640 .f32) (r : Fin 128) (l : Fin 256) :
    unit q k v kc vc b (ix3 0 r l)
      = attend (fun w => (∑ d : Fin 64, q (ix3 0 r (lane l d)) * keyAt k (lane l d) w) + b (ix4 0 0 (copyRow l r) w))
          (fun w => ∑ d : Fin 64, q (ix3 0 r (lane l d)) * ctxKeyAt kc (lane l d) w)
          (fun w => v (ix3 0 w l)) (fun w => vc (ix3 0 w l)) := by
  unfold unit
  rw [out_apply]
  simp only [winLogits_apply, ctxLogits_apply]

end Cert.Na
-- ==== Proof.Body.lean ====
/- WHAT ONE POINT OF THE ATTENTION'S GRID LEAVES: its four stores are `unit` of the blocks that the point loads. -/
module

public import proofs.«01_k».proof.Proof.Unit
public import proofs.«01_k».proof.Proof.Gen.KernelIdeal.Frame
public import Idealize.ShloMosaic.Lib.Pipeline.ValueKit.Tiles

@[expose] public section

set_option maxRecDepth 16384

noncomputable section

namespace Cert.Na

open Cert.KernelIdeal Cert.KernelIdeal.Gen
open Idealize.ShloMosaic Idealize.ShloMosaic.TcCoe Idealize.SL.Sem

section Gen0

variable {F : FTy → Type} [FloatOps F] [Named F]

/-- The four units' window logits are one function of their loads. -/
theorem win_eq1 (M : IVec S512x256 1) (q : Vec F S1x128x256 .bf16) (k0 k1 k2 k3 k4 : Vec F S1x1x256x128 .bf16) (b : Vec F S1x1x512x640 .f32) :
    k1_pay17 M (k1_pay14 q) (k1_pay15 k0) k1 k2 k3 k4 b = k1_pay12 M (k1_pay8 q) (k1_pay9 k0) k1 k2 k3 k4 b := rfl
theorem win_eq2 (M : IVec S512x256 1) (q : Vec F S1x128x256 .bf16) (k0 k1 k2 k3 k4 : Vec F S1x1x256x128 .bf16) (b : Vec F S1x1x512x640 .f32) :
    k1_pay23 M (k1_pay19 q) (k1_pay20 k0) (k1_pay21 k1) k2 k3 k4 b = k1_pay12 M (k1_pay8 q) (k1_pay9 k0) k1 k2 k3 k4 b := rfl
theorem win_eq3 (M : IVec S512x256 1) (q : Vec F S1x128x256 .bf16) (k0 k1 k2 k3 k4 : Vec F S1x1x256x128 .bf16) (b : Vec F S1x1x512x640 .f32) :
    k1_pay30 M (k1_pay25 q) (k1_pay26 k0) (k1_pay27 k1) (k1_pay28 k2) k3 k4 b = k1_pay12 M (k1_pay8 q) (k1_pay9 k0) k1 k2 k3 k4 b := rfl

/-- The four units' context logits are one function of their loads. -/
theorem ctx_eq1 (M : IVec S512x256 1) (q : Vec F S1x128x256 .bf16) (k0 k1 : Vec F S1x1x256x128 .bf16) :
    k1_pay18 M (k1_pay14 q) k0 k1 = k1_pay13 (k1_pay10 k0 k1) (k1_pay11 M (k1_pay8 q)) := rfl
theorem ctx_eq2 (M : IVec S512x256 1) (q : Vec F S1x128x256 .bf16) (k0 k1 : Vec F S1x1x256x128 .bf16) :
    k1_pay24 M (k1_pay19 q) k0 k1 = k1_pay13 (k1_pay10 k0 k1) (k1_pay11 M (k1_pay8 q)) := rfl
theorem ctx_eq3 (M : IVec S512x256 1) (q : Vec F S1x128x256 .bf16) (k0 k1 : Vec F S1x1x256x128 .bf16) :
    k1_pay31 M (k1_pay25 q) k0 k1 = k1_pay13 (k1_pay10 k0 k1) (k1_pay11 M (k1_pay8 q)) := rfl

/-- The four units' stored blocks are one function of the logits and the values. -/
theorem out_eq1 (M : IVec S512x256 1) (S : FVec F S512x640 .f32) (C : FVec F S512x256 .f32) (v : Vec F S1x640x256 .bf16) (vc : Vec F S1x256x256 .bf16) :
    k1_pay40 M C (k1_pay36 v) (k1_pay38 S C) (k1_pay39 S C) vc = k1_pay35 M S C (k1_pay32 v) (k1_pay33 S C) (k1_pay34 S C) vc := rfl
theorem out_eq2 (M : IVec S512x256 1) (S : FVec F S512x640 .f32) (C : FVec F S512x256 .f32) (v : Vec F S1x640x256 .bf16) (vc : Vec F S1x256x256 .bf16) :
    k1_pay45 M (k1_pay41 v) (k1_pay43 S C) (k1_pay44 S C) vc = k1_pay35 M S C (k1_pay32 v) (k1_pay33 S C) (k1_pay34 S C) vc := rfl
theorem out_eq3 (M : IVec S512x256 1) (S : FVec F S512x640 .f32) (C : FVec F S512x256 .f32) (v : Vec F S1x640x256 .bf16) (vc : Vec F S1x256x256 .bf16) :
    k1_pay1 M (k1_pay46 v) (k1_pay48 S C) (k1_pay49 S C) (k1_pay50 S C) vc = k1_pay35 M S C (k1_pay32 v) (k1_pay33 S C) (k1_pay34 S C) vc := rfl

end Gen0

/-- The unit at an index, its loads' contents named: the row's queries, keys and bias of one head, the values of one lane. -/
theorem unit_at (q : Vec Ideal S1x128x256 .bf16) (k : Fin 5 → Vec Ideal S1x1x256x128 .bf16) (v : Vec Ideal S1x640x256 .bf16)
    (kc : Fin 2 → Vec Ideal S1x1x256x128 .bf16) (vc : Vec Ideal S1x256x256 .bf16)
    (b : Vec Ideal S1x1x512x640 .f32) (r : Fin 128) (l : Fin 256)
    (Q : Fin 64 → EReal) (K : Fin 64 → Fin 640 → EReal) (KC : Fin 64 → Fin 256 → EReal) (B V : Fin 640 → EReal) (VC : Fin 256 → EReal)
    (hq : ∀ d, q (ix3 0 r (lane l d)) = Q d)
    (hk : ∀ (j : Fin 5) d (w : Fin 128), k j (ix4 0 0 (lane l d) w) = K d ⟨j.val * 128 + w.val, by omega⟩)
    (hkc : ∀ (j : Fin 2) d (w : Fin 128), kc j (ix4 0 0 (lane l d) w) = KC d ⟨j.val * 128 + w.val, by omega⟩)
    (hb : ∀ w, b (ix4 0 0 (copyRow l r) w) = B w) (hv : ∀ w, v (ix3 0 w l) = V w) (hvc : ∀ w, vc (ix3 0 w l) = VC w) :
    unit q k v kc vc b (ix3 0 r l)
      = attend (fun w => (∑ d, Q d * K d w) + B w) (fun w => ∑ d, Q d * KC d w) V VC := by
  have hk' : ∀ d w, keyAt k (lane l d) w = K d w := fun d w => (hk _ d _).trans (congrArg (K d) (Fin.ext (by simp only []; omega)))
  have hkc' : ∀ d w, ctxKeyAt kc (lane l d) w = KC d w := fun d w => (hkc _ d _).trans (congrArg (KC d) (Fin.ext (by simp only []; omega)))
  rw [unit_apply]
  simp only [hq, hk', hkc', hb, hv, hvc]

/-- The window of pair `p` of query rows begins at block `st p` of two rows of keys. -/
def st (p : ℕ) : ℕ := min (p - 2) 59

/-- The offsets of the window's loads. -/
theorem off1 : ∀ t : Fin cfg1.N, ∀ (u : Fin 2) (j : Fin 5),
    k1_off1 (grid1.coords t) (BitVec.ofNat 32 u.val) (BitVec.ofNat 32 j.val) = ![0, st (2 * (t.val % 32) + u.val) + j.val, 0, 0] :=
  (by decide +kernel : ∀ t : Fin grid1.N, _)
theorem off2 : ∀ t : Fin cfg1.N, ∀ (u : Fin 2) (j : Fin 5),
    k1_off2 (grid1.coords t) (BitVec.ofNat 32 u.val) (BitVec.ofNat 32 j.val) = ![0, st (2 * (t.val % 32) + u.val) + j.val, 256, 0] :=
  (by decide +kernel : ∀ t : Fin grid1.N, _)
theorem off3 : ∀ t : Fin cfg1.N, ∀ (u : Fin 2),
    k1_off3 (grid1.coords t) (BitVec.ofNat 32 u.val) = ![0, 128 * st (2 * (t.val % 32) + u.val), 0] :=
  (by decide +kernel : ∀ t : Fin grid1.N, _)
theorem off4 : ∀ t : Fin cfg1.N, ∀ (u : Fin 2),
    k1_off4 (grid1.coords t) (BitVec.ofNat 32 u.val) = ![0, 128 * st (2 * (t.val % 32) + u.val), 256] :=
  (by decide +kernel : ∀ t : Fin grid1.N, _)

/-- A lane of the head of lane `L`. -/
def headLane (L : Fin 512) (d : Fin 64) : Fin 512 := ⟨L.val / 64 * 64 + d.val, by omega⟩

/-- Block `j` of the keys, from block `st p` on. -/
def kblk (p : ℕ) (w : Fin 640) : Fin 64 := ⟨st p + w.val / 128, by unfold st; omega⟩

/-- Row `w` of the values, from the window's first on. -/
def vrow (p : ℕ) (w : Fin 640) : Fin 8192 := ⟨128 * st p + w.val, by unfold st; omega⟩

set_option maxHeartbeats 1000000 in
/-- What one point leaves at a row and a lane, from the blocks its windows hold. -/
theorem out_at (c : Dev nD) (t : Fin cfg1.N) (arg2 : Memref sig .tc .vmem S1x256x512 .bf16) (harg2 : arg2.IsWhole) (arg3 : Memref sig .tc .vmem S1x64x512x128 .bf16) (harg3 : arg3.IsWhole) (arg4 : Memref sig .tc .vmem S1x8192x512 .bf16) (harg4 : arg4.IsWhole) (arg5 : Memref sig .tc .vmem S1x2x512x128 .bf16) (harg5 : arg5.IsWhole) (arg6 : Memref sig .tc .vmem S1x256x512 .bf16) (harg6 : arg6.IsWhole) (arg7 : Memref sig .tc .vmem S1x2x512x640 .f32) (harg7 : arg7.IsWhole) (arg8 : Memref sig .tc .vmem S1x2x512x640 .f32) (harg8 : arg8.IsWhole) (arg9 : Memref sig .tc .vmem S1x256x512 .bf16) (harg9 : arg9.IsWhole)
    (x0 : Vec Ideal S1x256x512 .bf16) (x1 : Vec Ideal S1x64x512x128 .bf16) (x2 : Vec Ideal S1x8192x512 .bf16) (x3 : Vec Ideal S1x2x512x128 .bf16) (x4 : Vec Ideal S1x256x512 .bf16) (x5 : Vec Ideal S1x2x512x640 .f32) (x6 : Vec Ideal S1x2x512x640 .f32) (R : Fin 256) (L : Fin 512) :
    out1_A_7 c (grid1.coords t) arg2 harg2 arg3 harg3 arg4 harg4 arg5 harg5 arg6 harg6 arg7 harg7 arg8 harg8 arg9 harg9 x0 x1 x2 x3 x4 x5 x6 (ix3 0 R L)
      = attend
          (fun w => (∑ d, x0 (ix3 0 R (headLane L d)) * x1 (ix4 0 (kblk (2 * (t.val % 32) + R.val / 128) w) (headLane L d) ⟨w.val % 128, Nat.mod_lt _ (by decide)⟩))
            + (if R.val < 128 then x5 else x6) (ix4 0 ⟨L.val / 256, by omega⟩ ⟨L.val / 64 % 4 * 128 + R.val % 128, by omega⟩ w))
          (fun w => ∑ d, x0 (ix3 0 R (headLane L d)) * x3 (ix4 0 ⟨w.val / 128, by omega⟩ (headLane L d) ⟨w.val % 128, Nat.mod_lt _ (by decide)⟩))
          (fun w => x2 (ix3 0 (vrow (2 * (t.val % 32) + R.val / 128) w) L)) (fun w => x4 (ix3 0 w L)) := by
  have e100 : k1_off1 (grid1.coords t) 0#32 0#32 = _ := off1 t 0 0
  have e101 : k1_off1 (grid1.coords t) 0#32 1#32 = _ := off1 t 0 1
  have e102 : k1_off1 (grid1.coords t) 0#32 2#32 = _ := off1 t 0 2
  have e103 : k1_off1 (grid1.coords t) 0#32 3#32 = _ := off1 t 0 3
  have e104 : k1_off1 (grid1.coords t) 0#32 4#32 = _ := off1 t 0 4
  have e110 : k1_off1 (grid1.coords t) 1#32 0#32 = _ := off1 t 1 0
  have e111 : k1_off1 (grid1.coords t) 1#32 1#32 = _ := off1 t 1 1
  have e112 : k1_off1 (grid1.coords t) 1#32 2#32 = _ := off1 t 1 2
  have e113 : k1_off1 (grid1.coords t) 1#32 3#32 = _ := off1 t 1 3
  have e114 : k1_off1 (grid1.coords t) 1#32 4#32 = _ := off1 t 1 4
  have e200 : k1_off2 (grid1.coords t) 0#32 0#32 = _ := off2 t 0 0
  have e201 : k1_off2 (grid1.coords t) 0#32 1#32 = _ := off2 t 0 1
  have e202 : k1_off2 (grid1.coords t) 0#32 2#32 = _ := off2 t 0 2
  have e203 : k1_off2 (grid1.coords t) 0#32 3#32 = _ := off2 t 0 3
  have e204 : k1_off2 (grid1.coords t) 0#32 4#32 = _ := off2 t 0 4
  have e210 : k1_off2 (grid1.coords t) 1#32 0#32 = _ := off2 t 1 0
  have e211 : k1_off2 (grid1.coords t) 1#32 1#32 = _ := off2 t 1 1
  have e212 : k1_off2 (grid1.coords t) 1#32 2#32 = _ := off2 t 1 2
  have e213 : k1_off2 (grid1.coords t) 1#32 3#32 = _ := off2 t 1 3
  have e214 : k1_off2 (grid1.coords t) 1#32 4#32 = _ := off2 t 1 4
  have e30 : k1_off3 (grid1.coords t) 0#32 = _ := off3 t 0
  have e31 : k1_off3 (grid1.coords t) 1#32 = _ := off3 t 1
  have e40 : k1_off4 (grid1.coords t) 0#32 = _ := off4 t 0
  have e41 : k1_off4 (grid1.coords t) 1#32 = _ := off4 t 1
  unfold out1_A_7
  rw [View.read_writes_junk_eq_canon]
  unfold kernelRun1_A
  canon_tiles x h
  all_goals simp only [kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10, kernelRun1_A.sl.r_11, kernelRun1_A.sl.r_12, kernelRun1_A.sl.r_13, kernelRun1_A.sl.r_14, kernelRun1_A.sl.r_15, kernelRun1_A.sl.r_16, kernelRun1_A.sl.r_17, kernelRun1_A.sl.r_18, kernelRun1_A.sl.r_19, kernelRun1_A.sl.r_20, kernelRun1_A.sl.r_21, kernelRun1_A.sl.r_22, kernelRun1_A.sl.r_23, kernelRun1_A.sl.r_24, kernelRun1_A.sl.r_25, kernelRun1_A.sl.r_26, kernelRun1_A.sl.r_27, kernelRun1_A.sl.r_28, kernelRun1_A.sl.r_29, kernelRun1_A.sl.r_30, kernelRun1_A.sl.r_31, kernelRun1_A.sl.r_32, kernelRun1_A.sl.r_33]
  all_goals simp only [win_eq1, win_eq2, win_eq3, ctx_eq1, ctx_eq2, ctx_eq3, out_eq1, out_eq2, out_eq3, View.readAt_eq_ld, harg2.read_unread, harg3.read_unread, harg4.read_unread, harg5.read_unread, harg6.read_unread, harg7.read_unread, harg8.read_unread]
  all_goals
    refine (show _ = unit _ ![_, _, _, _, _] _ ![_, _] _ _ x from rfl).trans ?_
    obtain ⟨r, l, rfl⟩ : ∃ r l, x = ix3 0 r l := ⟨x 1, x 2, by
      rw [← ix3_eta x]
      exact congrArg (fun a => ix3 a (x 1) (x 2)) (Fin.ext (Nat.lt_one_iff.mp x0_lt))⟩
    refine unit_at _ _ _ _ _ _ _ _ _ _ _ _ _ _ ?_ ?_ ?_ ?_ ?_ ?_
    all_goals simp only [ix3_0, ix3_1, ix3_2] at h0 h1 h2 x1_lt x2_lt
    · intro d
      refine View.ld_unit_apply_of _ _ _ _ _ _ fun a => ?_
      fin_cases a <;> simp [headLane, lane, h1, h2] <;> omega
    · intro j d w
      fin_cases j
      all_goals
        refine View.ld_unit_apply_of _ _ _ _ _ _ fun a => ?_
        fin_cases a <;> simp [e100, e101, e102, e103, e104, e110, e111, e112, e113, e114, e200, e201, e202, e203, e204, e210, e211, e212, e213, e214, headLane, lane, kblk, h1, h2] <;> first | omega | (unfold st; omega)
    · intro j d w
      fin_cases j
      all_goals
        refine congrArg x3 (funext fun a => Fin.ext ((Rect.idx_unit_val _ _ _ _ _).trans ?_))
        fin_cases a <;> simp [headLane, lane, h2] <;> omega
    · intro w
      have hR : R.val < 128 ↔ R.val / 128 = 0 := by omega
      first
        | (rw [if_pos (by omega)]
           refine View.ld_unit_apply_of _ _ _ _ _ _ fun a => ?_
           fin_cases a <;> simp [copyRow, h1, h2] <;> omega)
        | (rw [if_neg (by omega)]
           refine View.ld_unit_apply_of _ _ _ _ _ _ fun a => ?_
           fin_cases a <;> simp [copyRow, h1, h2] <;> omega)
    · intro w
      refine View.ld_unit_apply_of _ _ _ _ _ _ fun a => ?_
      fin_cases a <;> simp [e30, e31, e40, e41, vrow, h1, h2] <;> first | omega | (unfold st; omega)
    · intro w
      refine View.ld_unit_apply_of _ _ _ _ _ _ fun a => ?_
      fin_cases a <;> simp [h1, h2] <;> omega

end Cert.Na
-- ==== Proof.Attention.lean ====
/- THE ATTENTION'S ARRAY: after the second kernel region the result array is, index by index, the attention of one query
   over the 640 keys of its window and the 256 context tokens, in terms of the arrays that the region finds. -/
module

public import proofs.«01_k».proof.Proof.Body
public import Idealize.ShloMosaic.Lib.Pipeline.ValueKit
public import Idealize.ShloMosaic.Lib.Pointwise

@[expose] public section

set_option maxRecDepth 16384

noncomputable section

namespace Cert.Na

open Cert.KernelIdeal Cert.KernelIdeal.Gen
open Idealize.ShloMosaic Idealize.ShloMosaic.TcCoe Idealize.SL.Sem
open Idealize.ShloMosaic.Pipeline (Dat)

/-- Which of the five tables of biases serves pair `p` of query rows: the first two and the last two pairs have their own. -/
def vr (p : ℕ) : Fin 5 := if p = 0 then 0 else if p = 1 then 1 else if p < 62 then 2 else if p = 62 then 3 else 4

/-- The attention of token `T`, lane `L`, of batch element `b`, against the window's 640 keys and the context. -/
def windowAt (Q : Vec Ideal S2x8192x512 .bf16) (KT : Vec Ideal S2x64x512x128 .bf16) (U : Vec Ideal S2x8192x512 .bf16)
    (KC : Vec Ideal S2x2x512x128 .bf16) (UC : Vec Ideal S2x256x512 .bf16) (B : Vec Ideal S5x2x512x640 .f32)
    (b : Fin 2) (T : Fin 8192) (L : Fin 512) : EReal :=
  attend
    (fun w => (∑ d, Q (ix3 b T (headLane L d)) * KT (ix4 b (kblk (T.val / 128) w) (headLane L d) ⟨w.val % 128, Nat.mod_lt _ (by decide)⟩))
      + B (ix4 (vr (T.val / 128)) ⟨L.val / 256, by omega⟩ ⟨L.val / 64 % 4 * 128 + T.val % 128, by omega⟩ w))
    (fun w => ∑ d, Q (ix3 b T (headLane L d)) * KC (ix4 b ⟨w.val / 128, by omega⟩ (headLane L d) ⟨w.val % 128, Nat.mod_lt _ (by decide)⟩))
    (fun w => U (ix3 b (vrow (T.val / 128) w) L)) (fun w => UC (ix3 b w L))

/-- The windows' block indices. -/
theorem idx1 : ∀ t : Fin cfg1.N,
    win1_0.index t = ![t.val / 32, t.val % 32, 0] ∧ win1_1.index t = ![t.val / 32, 0, 0, 0] ∧ win1_2.index t = ![t.val / 32, 0, 0]
      ∧ win1_3.index t = ![t.val / 32, 0, 0, 0] ∧ win1_4.index t = ![t.val / 32, 0, 0]
      ∧ win1_5.index t = ![(vr (2 * (t.val % 32))).val, 0, 0, 0] ∧ win1_6.index t = ![(vr (2 * (t.val % 32) + 1)).val, 0, 0, 0]
      ∧ win1_7.index t = ![t.val / 32, t.val % 32, 0] :=
  (by decide +kernel : ∀ t : Fin grid1.N, _)

variable (V : (c : Dev nD) → (b : Ref sig .tc) → Buf (Elt Ideal) ((c : Thread nD τ).loc b))

/-- The batch element of a point. -/
def pb (t : Fin cfg1.N) : Fin 2 := ⟨t.val / 32, by have := lt_of_lt_of_eq t.isLt N_1; omega⟩
/-- Row `R` of a point's block, as a token. -/
def pt (t : Fin cfg1.N) (R : Fin 256) : Fin 8192 := ⟨t.val % 32 * 256 + R.val, by omega⟩

theorem b0 (c : Dev nD) (t : Fin cfg1.N) (R : Fin 256) (L : Fin 512) :
    iblk1 V c 0 t (ix3 0 R L) = V c main_arg0 (ix3 (pb t) (pt t R) L) := by
  blk_point [iblk1, idx1 t]
  all_goals rfl
theorem b1 (c : Dev nD) (t : Fin cfg1.N) (j : Fin 64) (e : Fin 512) (w : Fin 128) :
    iblk1 V c 1 t (ix4 0 j e w) = V c main_arg1 (ix4 (pb t) j e w) := by
  blk_point [iblk1, idx1 t]
  all_goals rfl
theorem b2 (c : Dev nD) (t : Fin cfg1.N) (R : Fin 8192) (L : Fin 512) :
    iblk1 V c 2 t (ix3 0 R L) = V c main_arg2 (ix3 (pb t) R L) := by
  blk_point [iblk1, idx1 t]
  all_goals rfl
theorem b3 (c : Dev nD) (t : Fin cfg1.N) (j : Fin 2) (e : Fin 512) (w : Fin 128) :
    iblk1 V c 3 t (ix4 0 j e w) = V c main_arg3 (ix4 (pb t) j e w) := by
  blk_point [iblk1, idx1 t]
  all_goals rfl
theorem b4 (c : Dev nD) (t : Fin cfg1.N) (R : Fin 256) (L : Fin 512) :
    iblk1 V c 4 t (ix3 0 R L) = V c main_arg4 (ix3 (pb t) R L) := by
  blk_point [iblk1, idx1 t]
  all_goals rfl
theorem b5 (c : Dev nD) (t : Fin cfg1.N) (g : Fin 2) (R : Fin 512) (w : Fin 640) :
    iblk1 V c 5 t (ix4 0 g R w) = V c main_v38 (ix4 (vr (2 * (t.val % 32))) g R w) := by
  blk_point [iblk1, idx1 t]
theorem b6 (c : Dev nD) (t : Fin cfg1.N) (g : Fin 2) (R : Fin 512) (w : Fin 640) :
    iblk1 V c 6 t (ix4 0 g R w) = V c main_v38 (ix4 (vr (2 * (t.val % 32) + 1)) g R w) := by
  blk_point [iblk1, idx1 t]

/-- What a point leaves, at an index of its block. -/
theorem at_point (c : Dev nD) (t : Fin cfg1.N) (R : Fin 256) (L : Fin 512) : outsAt1 V c t (ix3 0 R L)
    = windowAt (V c main_arg0) (V c main_arg1) (V c main_arg2) (V c main_arg3) (V c main_arg4) (V c main_v38) (pb t) (pt t R) L := by
  have hp : (pt t R).val / 128 = 2 * (t.val % 32) + R.val / 128 := by simp only [pt]; omega
  have hm : (pt t R).val % 128 = R.val % 128 := by simp only [pt]; omega
  have hB : ∀ (g : Fin 2) (a : Fin 512) (w : Fin 640),
      (if R.val < 128 then iblk1 V c 5 t else iblk1 V c 6 t) (ix4 0 g a w) = V c main_v38 (ix4 (vr (2 * (t.val % 32) + R.val / 128)) g a w) := by
    intro g a w
    by_cases h : R.val < 128
    · rw [if_pos h, b5, show R.val / 128 = 0 by omega]
      rfl
    · rw [if_neg h, b6, show R.val / 128 = 1 by omega]
  unfold outsAt1
  rw [out_at]
  simp only [b0, b1, b2, b3, b4, hB]
  unfold windowAt
  simp only [hp, hm]

/-- The attention's array, from the arrays that the region finds. -/
theorem final1 (c : Dev nD) : (dat1 V c).arrAt 7 cfg1.N
    = fun y => windowAt (V c main_arg0) (V c main_arg1) (V c main_arg2) (V c main_arg3) (V c main_arg4) (V c main_v38) (y 0) (y 1) (y 2) := by
  refine (dat1 V c).arrAt_eq_of_covers 7 _ (by decide +kernel) fun t hf y => ?_
  blk_simp
  rw [after1_7]
  have h0 : (y 0).val < 1 := (y 0).isLt
  have e : (y : S1x256x512.Idx) = ix3 0 (y 1) (y 2) := by
    refine (ix3_eta (n0 := 1) (n1 := 256) (n2 := 512) y).symm.trans ?_
    exact congrArg (fun a => ix3 a (y 1) (y 2)) (Fin.ext (by simp))
  refine (congrArg (outsAt1 V c t) e).trans ((at_point V c t (y 1) (y 2)).trans ?_)
  have e0 : (win1_7.blk t).view.emb y 0 = pb t := by apply Fin.ext; blk_simp [idx1 t]; simp only [pb]
  have e1 : (win1_7.blk t).view.emb y 1 = pt t (y 1) := by apply Fin.ext; blk_simp [idx1 t]; simp only [pt]
  have e2 : (win1_7.blk t).view.emb y 2 = y 2 := by apply Fin.ext; blk_simp [idx1 t]
  rw [e0, e1, e2]

end Cert.Na
-- ==== Proof.Host.lean ====
module

public import proofs.«01_k».proof.Proof.Attention
public import proofs.«01_k».proof.Proof.Gen.KernelIdeal.Frame
public import Idealize.ShloMosaic.Lib.Pipeline.ValueKit
public import Idealize.ShloMosaic.Lib.Pointwise
import Idealize.ShloMosaic.Lib.Claim

@[expose] public section

set_option maxRecDepth 16384

noncomputable section

namespace Cert.Na

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The numbers 0 to 63. -/
def cols : IVec S64 32 := iotaInDim S64 32 0
/-- Each column's first key column, as the program computes it. -/
def colFirst : IVec S64 32 :=
  minsi (broadcastInDim S64 ![] bcast_S_S64 (constantI S_ 32 48#32)) (maxsi (broadcastInDim S64 ![] bcast_S_S64 (constantI S_ 32 0#32))
    (subi cols (broadcastInDim S64 ![] bcast_S_S64 (constantI S_ 32 8#32))))
/-- Which key columns a query column sees. -/
def colOk : IVec S64x64 1 :=
  andi (cmpi .sge (broadcastInDim S64x64 ![0, 1] bcast_S1x64_S64x64_0_1 (broadcastInDim S1x64 ![1] bcast_S64_S1x64_1 cols))
      (broadcastInDim S64x64 ![0, 1] bcast_S64x1_S64x64_0_1 (broadcastInDim S64x1 ![0] bcast_S64_S64x1_0 colFirst)))
    (cmpi .slt (broadcastInDim S64x64 ![0, 1] bcast_S1x64_S64x64_0_1 (broadcastInDim S1x64 ![1] bcast_S64_S1x64_1 cols))
      (broadcastInDim S64x64 ![0, 1] bcast_S64x1_S64x64_0_1 (addi (broadcastInDim S64x1 ![0] bcast_S64_S64x1_0 colFirst)
        (broadcastInDim S64x1 ![] bcast_S_S64x1 (constantI S_ 32 16#32)))))
/-- Which rows of a window a query row sees, per table. -/
def rowOk : IVec S5x2x10 1 := fun i => lit0 (S5x2x10.rowMajor i)
/-- The tables' mask: both hold. -/
def seen : IVec S5x2x64x640 1 :=
  shapeCast S5x2x64x640
    (andi (broadcastInDim S5x2x64x10x64 ![0, 1, 2, 3, 4] bcast_S5x2x1x10x1_S5x2x64x10x64_0_1_2_3_4
        (broadcastInDim S5x2x1x10x1 ![0, 1, 3] bcast_S5x2x10_S5x2x1x10x1_0_1_3 rowOk))
      (broadcastInDim S5x2x64x10x64 ![0, 1, 2, 3, 4] bcast_S1x1x64x1x64_S5x2x64x10x64_0_1_2_3_4
        (broadcastInDim S1x1x64x1x64 ![2, 4] bcast_S64x64_S1x1x64x1x64_2_4 colOk)))
    shapeCasts_S5x2x64x10x64_S5x2x64x640
/-- The mask as numbers. -/
def seenF : Vec Ideal S5x2x64x640 .f32 :=
  select seen (broadcastInDim S5x2x64x640 ![] bcast_S_S5x2x64x640 (constant (F := Ideal) S_ .f32 0x3F800000#32))
    (broadcastInDim S5x2x64x640 ![] bcast_S_S5x2x64x640 (constant (F := Ideal) S_ .f32 0x00000000#32))

/-- The biases with one more row, of zeros. -/
def extended (x : Vec Ideal S1x8x15x31 .f32) : Vec Ideal S8x16x31 .f32 :=
  Host.scatter scatter_S8x16x31_S1_S8x15x31_012_n_1_0 (fun _ b => b) (broadcastInDim S8x16x31 ![] bcast_S_S8x16x31 (constant (F := Ideal) S_ .f32 0x00000000#32))
    (broadcastInDim S1 ![] bcast_S_S1 (constantI S_ 32 0#32)) (shapeCast S8x15x31 x shapeCasts_S1x8x15x31_S8x15x31)

/-- The bias row of every row of every table's window, as the program's table has it. -/
def rowTable : IVec S100 32 := fun i => lit1 (S100.rowMajor i)
/-- A table of indices as start indices, a negative one counted from the end. -/
def idxOf (t : IVec S100 32) : IVec S100x1 32 :=
  broadcastInDim S100x1 ![0] bcast_S100_S100x1_0
    (select (cmpi .slt t (broadcastInDim S100 ![] bcast_S_S100 (constantI S_ 32 0#32)))
      (addi t (broadcastInDim S100 ![] bcast_S_S100 (constantI S_ 32 16#32))) t)
/-- Whether a start index is in range. -/
def idxIn (i : IVec S100x1 32) : IVec S100 1 :=
  Host.reduce IntOp.andi
    (andi (cmpi .sge i (broadcastInDim S100x1 ![] bcast_S_S100x1 (constantI S_ 32 0#32)))
      (cmpi .sle i (broadcastInDim S100x1 ![0, 1] bcast_S1x1_S100x1_0_1 (broadcastInDim S1x1 ![1] bcast_S1_S1x1_1 (constantI S1 32 15#32)))))
    (constantI S_ 1 1#1) reducesTo_S100x1_S100_d1 h_S_
/-- The bias rows taken. -/
def takenBy (t : IVec S100 32) (e : Vec Ideal S8x16x31 .f32) : Vec Ideal S8x100x31 .f32 :=
  select (broadcastInDim S8x100x31 ![1] bcast_S100_S8x100x31_1 (idxIn (idxOf t)))
    (Host.gather gather_S8x16x31_S100x1_S8x100x31_02_1_n_n_1_1_8131 e (idxOf t))
    (broadcastInDim S8x100x31 ![] bcast_S_S8x100x31 (constant (F := Ideal) S_ .f32 0x7FC00000#32))
def rowIdx := idxOf rowTable
def rowIn := idxIn rowIdx
/-- The bias rows that the windows take. -/
def taken (e : Vec Ideal S8x16x31 .f32) : Vec Ideal S8x100x31 .f32 := takenBy rowTable e
/-- The same with the window's rows an axis. -/
def picked (e : Vec Ideal S8x16x31 .f32) : Vec Ideal S8x5x2x10x31 .f32 := shapeCast S8x5x2x10x31 (taken e) shapeCasts_S8x100x31_S8x5x2x10x31
/-- The window's rows turned by one. -/
def turned (p : Vec Ideal S8x5x2x10x31 .f32) : Vec Ideal S8x5x2x10x31 .f32 :=
  concatenate S8x5x2x10x31 3 [⟨S8x5x2x9x31, extractStridedSlice S8x5x2x9x31 ![0, 0, 0, 1, 0] p slices_S8x5x2x10x31_S8x5x2x9x31_0_0_0_1_0⟩,
    ⟨S8x5x2x1x31, extractStridedSlice S8x5x2x1x31 ![0, 0, 0, 0, 0] p slices_S8x5x2x10x31_S8x5x2x1x31_0_0_0_0_0⟩]
    concatenates_S8x5x2x9x31_S8x5x2x1x31_S8x5x2x10x31_d3
/-- The taps: the biases ahead of a column, a gap, and the biases behind it. -/
def tapsOf (p : Vec Ideal S8x5x2x10x31 .f32) : Vec Ideal S5x2x8x640 .f32 :=
  shapeCast S5x2x8x640
    (transpose S5x2x4x2x640 [2, 0, 1, 3, 4]
      (shapeCast S2x4x5x2x640
        (concatenate S8x5x2x10x64 4
          [⟨S8x5x2x10x16, extractStridedSlice S8x5x2x10x16 ![0, 0, 0, 0, 15] p slices_S8x5x2x10x31_S8x5x2x10x16_0_0_0_0_15⟩,
            ⟨S8x5x2x10x33, broadcastInDim S8x5x2x10x33 ![] bcast_S_S8x5x2x10x33 (constant (F := Ideal) S_ .f32 0x00000000#32)⟩,
            ⟨S8x5x2x10x15, extractStridedSlice S8x5x2x10x15 ![0, 0, 0, 0, 0] (turned p) slices_S8x5x2x10x31_S8x5x2x10x15_0_0_0_0_0⟩]
          concatenates_S8x5x2x10x16_S8x5x2x10x33_S8x5x2x10x15_S8x5x2x10x64_d4)
        shapeCasts_S8x5x2x10x64_S2x4x5x2x640)
      transposes_S2x4x5x2x640_S5x2x4x2x640_2_0_1_3_4)
    shapeCasts_S5x2x4x2x640_S5x2x8x640

set_option maxHeartbeats 1000000 in
/-- The mask that the first region finds. -/
theorem entry_seen : V9 m ρ c main_v24 = seenF := by
  unfold_abbrev_sides
  after_results
  simp only [StableHlo.TRef.toBuf, StableHlo.TRef.ofBuf, cast_eq]
  unfold seenF seen
  rfl

/-- The last stretch of host operations, from any contents. -/
theorem stretch8 (X : Valuation τ sig (Elt Ideal)) (p : Vec Ideal S8x5x2x10x31 .f32)
    (h30 : X main_v30 = extractStridedSlice S8x5x2x10x16 ![0, 0, 0, 0, 15] p slices_S8x5x2x10x31_S8x5x2x10x16_0_0_0_0_15)
    (h31 : X main_v31 = turned p) : StableHlo.after hostOps0_8 X main_v37 = tapsOf p := by
  unfold tapsOf
  rw [← h30, ← h31]
  unfold_abbrev_sides
  after_results
  rfl
/-- The stretch before it, the turn. -/
theorem stretch7 (X : Valuation τ sig (Elt Ideal)) : StableHlo.after hostOps0_7 X main_v31 = turned (X main_v29) := by
  unfold_abbrev_sides
  after_results
  rfl
/-- The reshape of the biases taken. -/
theorem stretch6 (X : Valuation τ sig (Elt Ideal)) :
    StableHlo.after hostOps0_6 X main_v29 = shapeCast S8x5x2x10x31 (X main_v28 : Vec Ideal S8x100x31 .f32) shapeCasts_S8x100x31_S8x5x2x10x31 := by
  unfold_abbrev_sides
  after_results
  rfl
/-- The slice ahead. -/
theorem stretch6' (X : Valuation τ sig (Elt Ideal)) :
    StableHlo.after hostOps0_6 X main_v30 = extractStridedSlice S8x5x2x10x16 ![0, 0, 0, 0, 15]
      (shapeCast S8x5x2x10x31 (X main_v28 : Vec Ideal S8x100x31 .f32) shapeCasts_S8x100x31_S8x5x2x10x31) slices_S8x5x2x10x31_S8x5x2x10x16_0_0_0_0_15 := by
  unfold_abbrev_sides
  after_results
  rfl
/-- The stretch that takes the bias rows. -/
theorem stretch5 (X : Valuation τ sig (Elt Ideal)) : StableHlo.after hostOps0_5 X main_v28 = takenBy (X main_c_0) (X main_v27) := by
  generalize hc : X main_c_0 = cc
  generalize he : X main_v27 = ee
  unfold_abbrev_sides
  after_results
  simp only [hc, he, StableHlo.TRef.toBuf, StableHlo.TRef.ofBuf, cast_eq]
  unfold takenBy idxIn idxOf
  rfl
/-- The extended biases, before that stretch. -/
theorem entry_extended : W5 m ρ c main_v27 = extended (m ((c : Thread nD τ).loc main_arg5)) := by
  unfold_abbrev_sides
  after_results
  unfold extended
  refine congrArg (fun u => Host.scatter scatter_S8x16x31_S1_S8x15x31_012_n_1_0 (fun _ b => b) _ _ u) ?_
  rfl
theorem entry_table : W5 m ρ c main_c_0 = rowTable := by
  unfold_abbrev_sides
  after_results
  rfl
/-- The biases taken, as that stretch leaves them. -/
theorem entry_taken : W6 m ρ c main_v28 = taken (extended (m ((c : Thread nD τ).loc main_arg5))) := by
  refine (stretch5 (W5 m ρ c)).trans ?_
  rw [entry_extended, entry_table]
  rfl
/-- The taps that the first region finds. -/
theorem entry_taps : V9 m ρ c main_v37 = tapsOf (picked (extended (m ((c : Thread nD τ).loc main_arg5)))) := by
  refine stretch8 (W8 m ρ c) _ ?_ ?_
  · refine (W8_of m ρ c main_v30 (by decide)).trans ((stretch6' (W6 m ρ c)).trans ?_)
    rw [entry_taken]
    rfl
  · refine (stretch7 (W7 m ρ c)).trans (congrArg turned ((stretch6 (W6 m ρ c)).trans ?_))
    rw [entry_taken]
    rfl

end Cert.Na
-- ==== Proof.Entries.lean ====
module

public import proofs.«01_k».proof.Proof.Host
public import Idealize.ShloMosaic.Lib.Pipeline.ValueKit
public import Idealize.ShloMosaic.Lib.Pointwise
public import Idealize.ShloMosaic.Lib.Routing.OpsSet
import Idealize.ShloMosaic.Lib.Claim

@[expose] public section

set_option maxRecDepth 16384

noncomputable section

namespace Cert.Na

open Cert.KernelIdeal Cert.KernelIdeal.Gen
open Idealize.ShloMosaic Idealize.ShloMosaic.TcCoe Idealize.SL.Sem
open Idealize.ShloMosaic.Pipeline (Dat)

/-! ## Those terms at an index -/

/-- The first key row that query row `q` sees. -/
def rowStart (q : ℕ) : ℕ := min (q - 4) 120
/-- The first key column that query column `x` sees. -/
def colStart (x : ℕ) : ℕ := min (x - 8) 48

theorem colOk_apply : ∀ x y : Fin 64, colOk (ix2 x y) = if colStart x.val ≤ y.val ∧ y.val < colStart x.val + 16 then 1#1 else 0#1 := by
  decide +kernel
theorem rowIn_apply : ∀ q : Fin 100, rowIn (ix1 q) = 1#1 := by
  decide +kernel
theorem rowIdx_apply : ∀ q : Fin 100, rowIdx (ix2 q 0) = lit1 q := by
  decide +kernel
/-- Where a table serves the pair `p`, its rows seen are the ones near the query's row, and its bias row is their difference. -/
theorem rows_at : ∀ (p : Fin 64) (r : Fin 2) (j : Fin 10),
    if rowStart (2 * p.val + r.val) ≤ 2 * st p.val + j.val ∧ 2 * st p.val + j.val < rowStart (2 * p.val + r.val) + 8
    then rowOk (ix3 (vr p.val) r j) = 1#1 ∧ 2 * p.val + r.val ≤ 2 * st p.val + j.val + 7
      ∧ (lit1 ⟨((vr p.val).val * 2 + r.val) * 10 + j.val, by omega⟩).toInt.toNat + (2 * p.val + r.val) = 2 * st p.val + j.val + 7
    else rowOk (ix3 (vr p.val) r j) = 0#1 := by
  decide +kernel

theorem gather_at (e : Vec Ideal S8x16x31 .f32) (i : IVec S100x1 32) (h : Fin 8) (q : Fin 100) (k : Fin 31) :
    Host.gather gather_S8x16x31_S100x1_S8x100x31_02_1_n_n_1_1_8131 e i (ix3 h q k) = e (ix3 h ⟨min (i (ix2 q 0)).toInt.toNat 15, by omega⟩ k) := by
  unfold Host.gather
  refine congrArg e (funext fun a => Fin.ext ?_)
  match a with
  | ⟨0, _⟩ => show 0 + 0 + h.val = h.val; omega
  | ⟨1, _⟩ =>
    have hs : ∀ k', gather_S8x16x31_S100x1_S8x100x31_02_1_n_n_1_1_8131.siIdx (ix3 h q k) k' = ix2 q 0 := by
      intro k'
      have hk : k'.val = 0 := by have := k'.isLt; change k'.val < 1 at this; omega
      funext b
      refine Fin.ext ?_
      match b with
      | ⟨0, _⟩ => rfl
      | ⟨1, _⟩ => exact hk
    show GatherDims.start _ (ix3 h q k) i 1 + 0 + 0 = _
    unfold GatherDims.start
    rw [dif_pos (by exact List.mem_singleton.2 rfl), hs]
    rfl
  | ⟨2, _⟩ => show 0 + 0 + k.val = k.val; omega

theorem extended_apply (x : Vec Ideal S1x8x15x31 .f32) (h : Fin 8) (r : Fin 15) (k : Fin 31) :
    extended x (ix3 h ⟨r.val, by omega⟩ k) = x (ix4 0 h r k) := by
  unfold extended
  have key : ∀ y : S8x15x31.Idx, scatter_S8x16x31_S1_S8x15x31_012_n_1_0.resultIdx? y (broadcastInDim S1 ![] bcast_S_S1 (constantI S_ 32 0#32))
      = some (ix3 (y 0) ⟨(y 1).val, Nat.lt_of_lt_of_le (y 1).isLt (by decide)⟩ (y 2)) := by
    intro y
    have hs : ∀ a, scatter_S8x16x31_S1_S8x15x31_012_n_1_0.start y (broadcastInDim S1 ![] bcast_S_S1 (constantI S_ 32 0#32)) a = 0 := by
      intro a
      unfold ScatterDims.start
      split
      · rfl
      · rfl
    have hw : ∀ a, scatter_S8x16x31_S1_S8x15x31_012_n_1_0.window y a = (ix3 (n0 := 8) (n1 := 16) (n2 := 31) (y 0) ⟨(y 1).val, Nat.lt_of_lt_of_le (y 1).isLt (by decide)⟩ (y 2) a).val := by
      intro a
      match a with
      | ⟨0, _⟩ => rfl
      | ⟨1, _⟩ => rfl
      | ⟨2, _⟩ => rfl
    unfold ScatterDims.resultIdx?
    rw [dif_pos (fun a => by rw [hs, hw]; exact ⟨by omega, by have := (ix3 (n0 := 8) (n1 := 16) (n2 := 31) (y 0) ⟨(y 1).val, Nat.lt_of_lt_of_le (y 1).isLt (by decide)⟩ (y 2) a).isLt; change _ < ((S8x16x31.size a : ℕ) : ℤ); rw [zero_add]; exact_mod_cast this⟩)]
    refine congrArg some (funext fun a => Fin.ext ?_)
    show (_ + _ : ℤ).toNat = _
    rw [hs, hw]
    simp
  refine Routing.scatter_set_hit _ _ _ _ _ _ (fun y hy => ?_) (ix3 h r k) (key _)
  rw [key] at hy
  have hy := Option.some.inj hy
  have h0 : y 0 = h := congrFun hy 0
  have h1' := congrArg Fin.val (congrFun hy 1)
  have h1 : (y 1).val = r.val := h1'
  have h2 : y 2 = k := congrFun hy 2
  have e : y = ix3 h r k := (ix3_eta y).symm.trans (by rw [h0, h2, show y 1 = r from Fin.ext h1])
  rw [e]
  pointwise

theorem select_andi (a b : BitVec 1) (x y : EReal) : Scalar.select (IntOp.andi a b) x y = if a = 1#1 ∧ b = 1#1 then x else y := by
  have h : IntOp.andi a b = 1#1 ↔ a = 1#1 ∧ b = 1#1 := by revert a b; decide
  unfold Scalar.select
  exact if_congr h rfl rfl
theorem select_one (x y : EReal) : Scalar.select 1#1 x y = x := if_pos rfl

theorem seenF_apply (g : Fin 5) (r : Fin 2) (a : Fin 64) (w : Fin 640) :
    seenF (ix4 g r a w) = if rowOk (ix3 g r ⟨w.val / 64, by omega⟩) = 1#1 ∧ colOk (ix2 a ⟨w.val % 64, by omega⟩) = 1#1 then 1 else 0 := by
  unfold seenF seen
  pointwise
  exact select_andi _ _ _ _
/-- A tap ahead of its column. -/
theorem taps_ahead (p : Vec Ideal S8x5x2x10x31 .f32) (v : Fin 5) (g : Fin 2) (i : Fin 8) (x : Fin 640) (h : x.val % 64 < 16) :
    tapsOf p (ix4 v g i x) = p (ix5 ⟨g.val * 4 + i.val / 2, by omega⟩ v ⟨i.val % 2, by omega⟩ ⟨x.val / 64, by omega⟩ ⟨15 + x.val % 64, by omega⟩) := by
  unfold tapsOf turned
  pointwise
  exact dif_pos h
/-- A tap behind its column: the bias of the next of the window's rows. -/
theorem taps_behind (p : Vec Ideal S8x5x2x10x31 .f32) (v : Fin 5) (g : Fin 2) (i : Fin 8) (x : Fin 640) (h : 49 ≤ x.val % 64) :
    tapsOf p (ix4 v g i x) = p (ix5 ⟨g.val * 4 + i.val / 2, by omega⟩ v ⟨i.val % 2, by omega⟩ ⟨(x.val / 64 + 1) % 10, by omega⟩ ⟨x.val % 64 - 49, by omega⟩) := by
  unfold tapsOf turned
  pointwise
  refine (dif_neg (by omega)).trans ((dif_neg (by omega)).trans ?_)
  by_cases h9 : x.val / 64 < 9
  · refine (dif_pos h9).trans ?_
    exact congrArg₂ (fun a b => p (ix5 _ v _ a b)) (Fin.ext (by simp only; omega)) (Fin.ext (by simp only; omega))
  · refine (dif_neg h9).trans ?_
    exact congrArg₂ (fun a b => p (ix5 _ v _ a b)) (Fin.ext (by simp only; omega)) (Fin.ext (by simp only; omega))

theorem picked_apply (e : Vec Ideal S8x16x31 .f32) (h : Fin 8) (v : Fin 5) (r : Fin 2) (j : Fin 10) (k : Fin 31) :
    picked e (ix5 h v r j k) = e (ix3 h ⟨min (lit1 ⟨(v.val * 2 + r.val) * 10 + j.val, by omega⟩).toInt.toNat 15, by omega⟩ k) := by
  have hq : (⟨v.val * 20 + r.val * 10 + j.val, by omega⟩ : Fin 100) = ⟨(v.val * 2 + r.val) * 10 + j.val, by omega⟩ := Fin.ext (by simp only; omega)
  unfold picked taken
  pointwise [takenBy]
  have h1 : idxIn (idxOf rowTable) (ix1 ⟨v.val * 20 + r.val * 10 + j.val, by omega⟩) = 1#1 := rowIn_apply _
  have h2 : idxOf rowTable (ix2 ⟨v.val * 20 + r.val * 10 + j.val, by omega⟩ 0) = lit1 ⟨(v.val * 2 + r.val) * 10 + j.val, by omega⟩ :=
    (rowIdx_apply _).trans (congrArg lit1 hq)
  rw [h1]
  refine (select_one _ _).trans ((gather_at _ _ _ _ _).trans ?_)
  exact congrArg (fun z => e (ix3 h z k)) (Fin.ext (congrArg (fun z : BitVec 32 => min z.toInt.toNat 15) h2))
end Cert.Na
-- ==== Proof.Table.lean ====
module

public import proofs.«01_k».proof.Proof.Host
public import Idealize.ShloMosaic.Lib.Pipeline.ValueKit
public import Idealize.ShloMosaic.Lib.Pointwise
import Idealize.ShloMosaic.Lib.Claim

@[expose] public section

set_option maxRecDepth 16384

noncomputable section

namespace Cert.Na

open Cert.KernelIdeal Cert.KernelIdeal.Gen
open Idealize.ShloMosaic Idealize.ShloMosaic.TcCoe Idealize.SL.Sem
open Idealize.ShloMosaic.Pipeline (Dat)

/-! ## One row of a table -/
section
variable {F : FTy → Type} [FloatOps F] [Named F]
theorem row_eq1 (a : Vec F S1x1x1x640 .f32) (b : Vec F S1x1x64x640 .f32) : k0_pay1 (k0_pay13 a) b = k0_pay2 a b := rfl
theorem row_eq3 (a : Vec F S1x1x1x640 .f32) (b : Vec F S1x1x64x640 .f32) : k0_pay12 a b = k0_pay2 a b := rfl
theorem row_eq4 (a : Vec F S1x1x1x640 .f32) (b : Vec F S1x1x64x640 .f32) : k0_pay11 (k0_pay10 a) b = k0_pay2 a b := rfl
theorem row_eq5 (a : Vec F S1x1x1x640 .f32) (b : Vec F S1x1x64x640 .f32) : k0_pay9 a b = k0_pay2 a b := rfl
theorem row_eq6 (a : Vec F S1x1x1x640 .f32) (b : Vec F S1x1x64x640 .f32) : k0_pay8 (k0_pay6 a) (k0_pay7 b) = k0_pay2 a b := rfl
theorem row_eq7 (a : Vec F S1x1x1x640 .f32) (b : Vec F S1x1x64x640 .f32) : k0_pay5 a b = k0_pay2 a b := rfl
theorem row_eq8 (a : Vec F S1x1x1x640 .f32) (b : Vec F S1x1x64x640 .f32) : k0_pay4 (k0_pay3 a b) = k0_pay2 a b := rfl
end

theorem row_apply (a : Vec Ideal S1x1x1x640 .f32) (b : Vec Ideal S1x1x64x640 .f32) (x : Fin 64) (w : Fin 640) :
    k0_pay2 a b (ix4 0 0 x w) = if 0 < b (ix4 0 0 x w) then a (ix4 0 0 0 ⟨(w.val + 640 - x.val) % 640, Nat.mod_lt _ (by decide)⟩) else ⊥ := by
  unfold k0_pay2
  pointwise
  by_cases hb : 0 < b (ix4 0 0 x w)
  · rw [if_pos hb, if_pos hb]
    split
    · exact congrArg (fun z => a (ix4 0 0 0 z)) (Fin.ext (by simp only; omega))
    · exact congrArg (fun z => a (ix4 0 0 0 z)) (Fin.ext (by simp only; omega))
  · rw [if_neg hb, if_neg hb]
    exact negInf

theorem out0_apply (x0 : Vec Ideal S1x1x8x640 .f32) (x1 : Vec Ideal S1x2x64x640 .f32) (i : Fin 512) (w : Fin 640) :
    out0_2 x0 x1 (ix4 0 0 i w) = if 0 < x1 (ix4 0 ⟨i.val / 64 % 2, by omega⟩ ⟨i.val % 64, by omega⟩ w)
      then x0 (ix4 0 0 ⟨i.val / 64, by omega⟩ ⟨(w.val + 640 - i.val % 64) % 640, Nat.mod_lt _ (by decide)⟩) else ⊥ := by
  unfold out0_2
  simp only [row_eq1, row_eq3, row_eq4, row_eq5, row_eq6, row_eq7, row_eq8]
  canon_tiles x h
  all_goals
    obtain ⟨r, l, rfl⟩ : ∃ r l, x = ix4 0 0 r l := ⟨x 2, x 3, by
      rw [← ix4_eta x]
      exact congrArg₂ (fun a b => ix4 a b (x 2) (x 3)) (Fin.ext (Nat.lt_one_iff.mp x0_lt)) (Fin.ext (Nat.lt_one_iff.mp x1_lt))⟩
    simp only [ix4_2, ix4_3] at h2 h3 x2_lt x3_lt
    have e1 : ∀ (X : Vec Ideal S1x1x8x640 .f32) (j : Fin 8) (hj : j.val = i.val / 64) (rr : Fin 640) (hr : rr.val = (l.val + 640 - r.val) % 640),
        X (ix4 0 0 j rr) = X (ix4 0 0 ⟨i.val / 64, by omega⟩ ⟨(w.val + 640 - i.val % 64) % 640, Nat.mod_lt _ (by decide)⟩) := by
      intro X j hj rr hr
      exact congrArg₂ (fun a b => X (ix4 0 0 a b)) (Fin.ext hj) (Fin.ext (by simp only; omega))
    rw [row_apply]
    refine if_congr (Iff.of_eq (congrArg _ ?_)) ?_ rfl
    · refine View.ld_unit_apply_of _ _ _ _ _ _ fun a => ?_
      fin_cases a <;> simp <;> omega
    · refine View.ld_unit_apply_of _ _ _ _ _ _ fun a => ?_
      fin_cases a <;> simp <;> omega
end Cert.Na
-- ==== Proof.Bias.lean ====
module

public import proofs.«01_k».proof.Proof.Entries
public import proofs.«01_k».proof.Proof.Table
public import Idealize.ShloMosaic.Lib.Pipeline.ValueKit
public import Idealize.ShloMosaic.Lib.Pointwise
import Idealize.ShloMosaic.Lib.Claim

@[expose] public section

set_option maxRecDepth 16384

noncomputable section

namespace Cert.Na

open Cert.KernelIdeal Cert.KernelIdeal.Gen
open Idealize.ShloMosaic Idealize.ShloMosaic.TcCoe Idealize.SL.Sem
open Idealize.ShloMosaic.Pipeline (Dat)

/-- The tables of biases, from their taps and their mask. -/
def tables (T : Vec Ideal S5x2x8x640 .f32) (S : Vec Ideal S5x2x64x640 .f32) (v : Fin 5) (g : Fin 2) (i : Fin 512) (w : Fin 640) : EReal :=
  if 0 < S (ix4 v ⟨i.val / 64 % 2, by omega⟩ ⟨i.val % 64, by omega⟩ w)
  then T (ix4 v g ⟨i.val / 64, by omega⟩ ⟨(w.val + 640 - i.val % 64) % 640, Nat.mod_lt _ (by decide)⟩) else ⊥

theorem idx0 : ∀ t : Fin cfg0.N,
    win0_0.index t = ![t.val / 2, t.val % 2, 0, 0] ∧ win0_1.index t = ![t.val / 2, 0, 0, 0] ∧ win0_2.index t = ![t.val / 2, t.val % 2, 0, 0] :=
  (by decide +kernel : ∀ t : Fin grid0.N, _)

section
variable (V : (c : Dev nD) → (b : Ref sig .tc) → Buf (Elt Ideal) ((c : Thread nD τ).loc b))

/-- The table of a point. -/
def tv (t : Fin cfg0.N) : Fin 5 := ⟨t.val / 2, by have := lt_of_lt_of_eq t.isLt N_0; omega⟩
/-- The group of heads of a point. -/
def tg (t : Fin cfg0.N) : Fin 2 := ⟨t.val % 2, by omega⟩

theorem taps_block (c : Dev nD) (t : Fin cfg0.N) (i : Fin 8) (w : Fin 640) : iblk0 V c 0 t (ix4 0 0 i w) = V c main_v37 (ix4 (tv t) (tg t) i w) := by
  blk_point [iblk0, idx0 t]
  all_goals rfl
theorem seen_block (c : Dev nD) (t : Fin cfg0.N) (r : Fin 2) (a : Fin 64) (w : Fin 640) : iblk0 V c 1 t (ix4 0 r a w) = V c main_v24 (ix4 (tv t) r a w) := by
  blk_point [iblk0, idx0 t]
  all_goals rfl

theorem out0_block (c : Dev nD) (t : Fin cfg0.N) (i : Fin 512) (w : Fin 640) :
    out0_2 (iblk0 V c 0 t) (iblk0 V c 1 t) (ix4 0 0 i w) = tables (V c main_v37) (V c main_v24) (tv t) (tg t) i w := by
  rw [out0_apply, taps_block, seen_block]
  rfl

/-- The array of tables, from the arrays that the region finds. -/
theorem final0 (c : Dev nD) : (dat0 V c).arrAt 2 cfg0.N = fun y => tables (V c main_v37) (V c main_v24) (y 0) (y 1) (y 2) (y 3) := by
  refine (dat0 V c).arrAt_eq_of_covers 2 _ (by decide +kernel) fun t hf y => ?_
  blk_simp
  rw [after0_2]
  have h0 : (y 0).val < 1 := (y 0).isLt
  have h1 : (y 1).val < 1 := (y 1).isLt
  have e : (y : S1x1x512x640.Idx) = ix4 0 0 (y 2) (y 3) := by
    refine (ix4_eta (n0 := 1) (n1 := 1) (n2 := 512) (n3 := 640) y).symm.trans ?_
    exact congrArg₂ (fun a b => ix4 a b (y 2) (y 3)) (Fin.ext (Nat.lt_one_iff.mp h0)) (Fin.ext (Nat.lt_one_iff.mp h1))
  have e0 : (win0_2.blk t).view.emb y 0 = tv t := by apply Fin.ext; blk_simp [idx0 t]; simp only [tv]
  have e1 : (win0_2.blk t).view.emb y 1 = tg t := by apply Fin.ext; blk_simp [idx0 t]; simp only [tg]
  have e2 : (win0_2.blk t).view.emb y 2 = y 2 := by apply Fin.ext; blk_simp [idx0 t]
  have e3 : (win0_2.blk t).view.emb y 3 = y 3 := by apply Fin.ext; blk_simp [idx0 t]
  refine (congrArg (out0_2 (iblk0 V c 0 t) (iblk0 V c 1 t)) e).trans ((out0_block V c t _ _).trans ?_)
  rw [e0, e1, e2, e3]
end

/-- Whether the query at row `q`, column `x` sees the key at row `kr`, column `kc`. -/
def Near (q x kr kc : ℕ) : Prop :=
  (rowStart q ≤ kr ∧ kr < rowStart q + 8) ∧ (colStart x ≤ kc ∧ kc < colStart x + 16)
instance (q x kr kc : ℕ) : Decidable (Near q x kr kc) := by unfold Near; infer_instance
/-- The bias between that query and that key, for head `h`. -/
def biasOf (x : Vec Ideal S1x8x15x31 .f32) (h : Fin 8) (q c kr kc : ℕ) : EReal :=
  x (ix4 0 h ⟨(kr + 7 - q) % 15, Nat.mod_lt _ (by decide)⟩ ⟨(kc + 15 - c) % 31, Nat.mod_lt _ (by decide)⟩)

theorem colNear (a k : ℕ) (ha : a < 64) (h : colStart a ≤ k ∧ k < colStart a + 16) : a ≤ k + 15 ∧ k ≤ a + 15 := by
  unfold colStart at h
  omega
theorem rowNear (q k : ℕ) (h : rowStart q ≤ k ∧ k < rowStart q + 8) : k ≤ q + 7 := by
  unfold rowStart at h
  omega
theorem pick_congr (e : Vec Ideal S8x16x31 .f32) (v : Fin 5) {h h' : Fin 8} {r r' : Fin 2} {j j' : Fin 10} {k k' : Fin 31}
    (eh : h'.val = h.val) (er : r'.val = r.val) (ej : j'.val = j.val) (ek : k'.val = k.val) :
    picked e (ix5 h' v r' j' k') = picked e (ix5 h v r j k) := by
  obtain rfl := Fin.ext eh
  obtain rfl := Fin.ext er
  obtain rfl := Fin.ext ej
  obtain rfl := Fin.ext ek
  rfl
theorem pick_at (x : Vec Ideal S1x8x15x31 .f32) (h : Fin 8) (v : Fin 5) (r : Fin 2) (j : Fin 10) (k : Fin 31) (n : Fin 15)
    (hl : (lit1 ⟨(v.val * 2 + r.val) * 10 + j.val, by omega⟩).toInt.toNat = n.val) :
    picked (extended x) (ix5 h v r j k) = x (ix4 0 h n k) := by
  rw [picked_apply]
  have e : ∀ (u : Fin 16), u.val = n.val → extended x (ix3 h u k) = x (ix4 0 h n k) := by
    intro u hu
    exact (congrArg (fun z => extended x (ix3 h z k)) (Fin.ext hu)).trans (extended_apply x h n k)
  refine e _ ?_
  simp only
  omega

/-- An entry of the tables that the program makes of its biases: the bias where the query sees the key, else `-∞`. -/
theorem tables_apply (x : Vec Ideal S1x8x15x31 .f32) (p : Fin 64) (r : Fin 2) (a : Fin 64) (h : Fin 8) (w : Fin 640) :
    tables (tapsOf (picked (extended x))) seenF (vr p.val) ⟨h.val / 4, by omega⟩ ⟨h.val % 4 * 128 + (r.val * 64 + a.val), by omega⟩ w
      = if Near (2 * p.val + r.val) a.val (2 * st p.val + w.val / 64) (w.val % 64)
        then biasOf x h (2 * p.val + r.val) a.val (2 * st p.val + w.val / 64) (w.val % 64) else ⊥ := by
  have i1 : (⟨(h.val % 4 * 128 + (r.val * 64 + a.val)) / 64 % 2, by omega⟩ : Fin 2) = r := Fin.ext (by simp only; omega)
  have i2 : (⟨(h.val % 4 * 128 + (r.val * 64 + a.val)) % 64, by omega⟩ : Fin 64) = a := Fin.ext (by simp only; omega)
  have hR := rows_at p r ⟨w.val / 64, by omega⟩
  have hC := colOk_apply a ⟨w.val % 64, by omega⟩
  dsimp only at hR hC
  have ha : a.val < 64 := a.isLt
  have hv : ∀ k : Fin 31, k.val = w.val % 64 + 15 - a.val → Near (2 * p.val + r.val) a.val (2 * st p.val + w.val / 64) (w.val % 64) →
      picked (extended x) (ix5 h (vr p.val) r ⟨w.val / 64, by omega⟩ k) = biasOf x h (2 * p.val + r.val) a.val (2 * st p.val + w.val / 64) (w.val % 64) := by
    intro k hk hn
    rw [if_pos hn.1] at hR
    obtain ⟨hR1, hR2, hR3⟩ := hR
    have hr1 := rowNear _ _ hn.1
    refine (pick_at x h _ r _ k ⟨(2 * st p.val + w.val / 64 + 7 - (2 * p.val + r.val)) % 15, Nat.mod_lt _ (by decide)⟩ ?_).trans ?_
    · simp only
      omega
    · unfold biasOf
      refine congrArg (fun u => x (ix4 0 h _ u)) (Fin.ext ?_)
      simp only
      omega
  unfold tables
  simp only [i1, i2]
  rw [seenF_apply, hC]
  by_cases hr : rowStart (2 * p.val + r.val) ≤ 2 * st p.val + w.val / 64 ∧ 2 * st p.val + w.val / 64 < rowStart (2 * p.val + r.val) + 8
  · rw [if_pos hr] at hR
    by_cases hc : colStart a.val ≤ w.val % 64 ∧ w.val % 64 < colStart a.val + 16
    · have hn : Near (2 * p.val + r.val) a.val (2 * st p.val + w.val / 64) (w.val % 64) := ⟨hr, hc⟩
      obtain ⟨hc1, hc2⟩ := colNear _ _ ha hc
      refine Eq.trans (if_pos ?_) (Eq.trans ?_ (if_pos hn).symm)
      · rw [if_pos ⟨hR.1, if_pos hc⟩]
        exact zero_lt_one
      · by_cases hac : a.val ≤ w.val % 64
        · refine (taps_ahead _ _ _ _ _ (by simp only; omega)).trans (Eq.trans (pick_congr _ _ ?_ ?_ ?_ ?_) (hv ⟨w.val % 64 + 15 - a.val, by omega⟩ rfl hn)) <;> simp only <;> omega
        · refine (taps_behind _ _ _ _ _ (by simp only; omega)).trans (Eq.trans (pick_congr _ _ ?_ ?_ ?_ ?_) (hv ⟨w.val % 64 + 15 - a.val, by omega⟩ rfl hn)) <;> simp only <;> omega
    · have hn : ¬ Near (2 * p.val + r.val) a.val (2 * st p.val + w.val / 64) (w.val % 64) := fun hn => hc hn.2
      refine Eq.trans (if_neg ?_) (if_neg hn).symm
      rw [if_neg (fun hh => absurd hh.2 (by rw [if_neg hc]; decide))]
      exact lt_irrefl _
  · rw [if_neg hr] at hR
    have hn : ¬ Near (2 * p.val + r.val) a.val (2 * st p.val + w.val / 64) (w.val % 64) := fun hn => hr hn.1
    refine Eq.trans (if_neg ?_) (if_neg hn).symm
    rw [if_neg (fun hh => absurd hh.1 (by rw [hR]; decide))]
    exact lt_irrefl _
end Cert.Na
-- ==== Proof.RefInt.lean ====
/- THE REFERENCE'S NEIGHBOURS.  Which rows and columns it takes for a query, as numbers, and the three reads by computed
   index: of the biases, of the keys and of the values. -/
module

public import proofs.«01_k».proof.Proof.Gen.ReferenceIdeal.Read
public import proofs.«01_k».proof.Proof.Entries
public import Idealize.ShloMosaic.Lib.Pointwise

@[expose] public section

set_option maxRecDepth 16384

noncomputable section

namespace Cert.NaRef

open Cert.ReferenceIdeal Cert.ReferenceIdeal.Gen Cert.ReferenceIdeal.Read
open Idealize.ShloMosaic Idealize.ShloMosaic.TcCoe Idealize.SL.Sem
open Cert.Na (rowStart colStart)

theorem rows_of : ∀ (q : Fin 128) (i : Fin 8), val_main_v19 (F := Ideal) (ix2 q i) = BitVec.ofNat 32 (rowStart q.val + i.val) := by
  decide +kernel
theorem cols_of : ∀ (x : Fin 64) (j : Fin 16), val_main_v28 (F := Ideal) (ix2 x j) = BitVec.ofNat 32 (colStart x.val + j.val) := by
  decide +kernel
theorem rowBias_of : ∀ (q : Fin 128) (i : Fin 8), val_main_v33 (F := Ideal) (ix2 q i) = BitVec.ofNat 32 (rowStart q.val + i.val + 7 - q.val) := by
  decide +kernel
theorem colBias_of : ∀ (x : Fin 64) (j : Fin 16), val_main_v38 (F := Ideal) (ix2 x j) = BitVec.ofNat 32 (colStart x.val + j.val + 15 - x.val) := by
  decide +kernel

/-- The token of neighbour `n` of the query at token `T`. -/
def nearKey (T : Fin 8192) (n : Fin 128) : Fin 8192 :=
  ⟨(rowStart (T.val / 64) + n.val / 16) * 64 + (colStart (T.val % 64) + n.val % 16), by unfold rowStart colStart; omega⟩
/-- The row of the table of biases for that neighbour. -/
def nearRow (T : Fin 8192) (n : Fin 128) : Fin 15 := ⟨rowStart (T.val / 64) + n.val / 16 + 7 - T.val / 64, by unfold rowStart; omega⟩
/-- The column of the table of biases for that neighbour. -/
def nearCol (T : Fin 8192) (n : Fin 128) : Fin 31 := ⟨colStart (T.val % 64) + n.val % 16 + 15 - T.val % 64, by unfold colStart; omega⟩

theorem place_num (a b k : ℕ) : IntOp.addi (IntOp.muli (BitVec.ofNat 32 a) (BitVec.ofNat 32 k)) (BitVec.ofNat 32 b) = BitVec.ofNat 32 (a * k + b) := by
  simp only [IntOp.addi, IntOp.muli, BitVec.ofNat_add, BitVec.ofNat_mul]

theorem keys_of (T : Fin 8192) (n : Fin 128) : val_main_v46 (F := Ideal) (ix2 T n) = BitVec.ofNat 32 (nearKey T n).val := by
  refine Eq.trans ?_ (place_num (rowStart (T.val / 64) + n.val / 16) (colStart (T.val % 64) + n.val % 16) 64)
  rw [← rows_of ⟨T.val / 64, by omega⟩ ⟨n.val / 16, by omega⟩, ← cols_of ⟨T.val % 64, by omega⟩ ⟨n.val % 16, by omega⟩]
  pointwise [val_main_v46, val_main_v45, val_main_v44, val_main_v43, val_main_v42, val_main_v41, val_main_v40, val_main_v39, val_main_c_7]
theorem biases_of (T : Fin 8192) (n : Fin 128) : val_main_v56 (F := Ideal) (ix2 T n) = BitVec.ofNat 32 ((nearRow T n).val * 31 + (nearCol T n).val) := by
  refine Eq.trans ?_ (place_num (rowStart (T.val / 64) + n.val / 16 + 7 - T.val / 64) (colStart (T.val % 64) + n.val % 16 + 15 - T.val % 64) 31)
  rw [← rowBias_of ⟨T.val / 64, by omega⟩ ⟨n.val / 16, by omega⟩, ← colBias_of ⟨T.val % 64, by omega⟩ ⟨n.val % 16, by omega⟩]
  pointwise [val_main_v56, val_main_v55, val_main_v54, val_main_v53, val_main_v52, val_main_v51, val_main_v50, val_main_v49, val_main_c_8]

/-- A read of the table of biases by computed index. -/
theorem gather_bias (e : Vec Ideal S8x465 .f32) (i : IVec S8192x128x1 32) (h : Fin 8) (T : Fin 8192) (n : Fin 128) :
    Host.gather gather_S8x465_S8192x128x1_S8x8192x128_0_1_n_n_1_2_81 e i (ix3 h T n) = e (ix2 h ⟨min (i (ix3 T n 0)).toInt.toNat 464, by omega⟩) := by
  unfold Host.gather
  refine congrArg e (funext fun a => Fin.ext ?_)
  match a with
  | ⟨0, _⟩ => show 0 + 0 + h.val = h.val; omega
  | ⟨1, _⟩ =>
    have hs : ∀ k', gather_S8x465_S8192x128x1_S8x8192x128_0_1_n_n_1_2_81.siIdx (ix3 h T n) k' = ix3 T n 0 := by
      intro k'
      have hk : k'.val = 0 := by have := k'.isLt; change k'.val < 1 at this; omega
      funext b
      refine Fin.ext ?_
      match b with
      | ⟨0, _⟩ => rfl
      | ⟨1, _⟩ => rfl
      | ⟨2, _⟩ => exact hk
    show GatherDims.start _ (ix3 h T n) i 1 + 0 + 0 = _
    unfold GatherDims.start
    rw [dif_pos (by exact List.mem_singleton.2 rfl), hs]
    rfl

/-- A read of tokens by computed index. -/
theorem gather_token (e : Vec Ideal S2x8192x512 .f32) (i : IVec S8192x128x1 32) (b : Fin 2) (T : Fin 8192) (n : Fin 128) (l : Fin 512) :
    Host.gather gather_S2x8192x512_S8192x128x1_S2x8192x128x512_03_1_n_n_1_2_21512 e i (ix4 b T n l) = e (ix3 b ⟨min (i (ix3 T n 0)).toInt.toNat 8191, by omega⟩ l) := by
  unfold Host.gather
  refine congrArg e (funext fun a => Fin.ext ?_)
  match a with
  | ⟨0, _⟩ => show 0 + 0 + b.val = b.val; omega
  | ⟨1, _⟩ =>
    have hs : ∀ k', gather_S2x8192x512_S8192x128x1_S2x8192x128x512_03_1_n_n_1_2_21512.siIdx (ix4 b T n l) k' = ix3 T n 0 := by
      intro k'
      have hk : k'.val = 0 := by have := k'.isLt; change k'.val < 1 at this; omega
      funext b
      refine Fin.ext ?_
      match b with
      | ⟨0, _⟩ => rfl
      | ⟨1, _⟩ => rfl
      | ⟨2, _⟩ => exact hk
    show GatherDims.start _ (ix4 b T n l) i 1 + 0 + 0 = _
    unfold GatherDims.start
    rw [dif_pos (by exact List.mem_singleton.2 rfl), hs]
    rfl
  | ⟨2, _⟩ => show 0 + 0 + l.val = l.val; omega

/-- The bias of neighbour `n`. -/
theorem bias_at (x5 : Vec Ideal S1x8x15x31 .f32) (h : Fin 8) (T : Fin 8192) (n : Fin 128) :
    val_main_v57 x5 (ix3 h T n) = x5 (ix4 0 h (nearRow T n) (nearCol T n)) := by
  unfold val_main_v57
  refine (gather_bias _ _ h T n).trans ?_
  have e : val_main_call2_v0 (F := Ideal) (ix3 T n 0) = val_main_v56 (F := Ideal) (ix2 T n) := by pointwise [val_main_call2_v0]
  have hr := (nearRow T n).isLt
  have hc := (nearCol T n).isLt
  have hi : ∀ u : Fin 465, u.val = (nearRow T n).val * 31 + (nearCol T n).val → val_main_v48 x5 (ix2 h u) = x5 (ix4 0 h (nearRow T n) (nearCol T n)) := by
    intro u hu
    pointwise [val_main_v48, val_main_v47]
    exact congrArg₂ (fun a b => x5 (ix4 0 h a b)) (Fin.ext (by simp only; omega)) (Fin.ext (by simp only; omega))
  refine hi _ ?_
  simp only
  rw [e, biases_of, StableHlo.Predicate.toInt_ofNat_small _ (by omega)]
  omega
/-- The key of neighbour `n`. -/
theorem key_at (x1 : Vec Ideal S2x64x512x128 .bf16) (b : Fin 2) (T : Fin 8192) (n : Fin 128) (l : Fin 512) :
    val_main_v58 x1 (ix4 b T n l) = x1 (ix4 b ⟨(nearKey T n).val / 128, by omega⟩ l ⟨(nearKey T n).val % 128, by omega⟩) := by
  unfold val_main_v58
  refine (gather_token _ _ b T n l).trans ?_
  have e : val_main_call3_v0 (F := Ideal) (ix3 T n 0) = val_main_v46 (F := Ideal) (ix2 T n) := by pointwise [val_main_call3_v0]
  have hi : ∀ u : Fin 8192, u.val = (nearKey T n).val → val_main_v5 x1 (ix3 b u l) = x1 (ix4 b ⟨(nearKey T n).val / 128, by omega⟩ l ⟨(nearKey T n).val % 128, by omega⟩) := by
    intro u hu
    obtain rfl := Fin.ext hu
    pointwise [val_main_v5, val_main_v4, val_main_v3]
  refine hi _ ?_
  simp only
  rw [e, keys_of, StableHlo.Predicate.toInt_ofNat_small _ (by omega)]
  omega
/-- The value of neighbour `n`. -/
theorem value_at (x2 : Vec Ideal S2x8192x512 .bf16) (b : Fin 2) (T : Fin 8192) (n : Fin 128) (l : Fin 512) :
    val_main_v60 x2 (ix4 b T n l) = x2 (ix3 b (nearKey T n) l) := by
  unfold val_main_v60
  refine (gather_token _ _ b T n l).trans ?_
  have e : val_main_call4_v0 (F := Ideal) (ix3 T n 0) = val_main_v46 (F := Ideal) (ix2 T n) := by pointwise [val_main_call4_v0]
  refine congrArg (fun u => x2 (ix3 b u l)) (Fin.ext ?_)
  simp only
  rw [e, keys_of, StableHlo.Predicate.toInt_ofNat_small _ (by omega)]
  omega
end Cert.NaRef
-- ==== Proof.Softmax.lean ====
/- THE TWO WAYS TO WRITE ONE QUERY'S ATTENTION.  A logit of `-∞` weighs nothing, so that attention over a window in which all
   keys but the neighbours are at `-∞` is attention over the neighbours; and dividing each weight by the sum of the weights
   before the product with the values is dividing the product, as the sum is positive. -/
module

public import proofs.«01_k».proof.Proof.Unit

@[expose] public section

set_option maxRecDepth 16384

noncomputable section

namespace Cert.Na

open Idealize.ShloMosaic

theorem fold_max_eq {n : Nat} (f : Fin n → EReal) : Finset.univ.fold max ⊥ f = Finset.univ.sup f := rfl

theorem exp_nonneg (x : EReal) : 0 ≤ Ideal.exp x := by
  induction x with
  | bot => exact le_refl _
  | top => exact le_top
  | coe r => exact EReal.coe_nonneg.2 (Real.exp_pos r).le

theorem exp_pos (x : EReal) (h : x ≠ ⊥) : 0 < Ideal.exp x := by
  induction x with
  | bot => exact absurd rfl h
  | top => exact EReal.zero_lt_top
  | coe r => exact EReal.coe_pos.2 (Real.exp_pos r)

theorem exp_bot_sub (M : EReal) : Ideal.exp (⊥ - M) = 0 := by
  rw [EReal.bot_sub]
  rfl

/-- A finite nonnegative factor distributes over a sum. -/
theorem sum_mul_nonneg {n : Nat} (f : Fin n → EReal) (c : EReal) (h0 : 0 ≤ c) (ht : c ≠ ⊤) : (∑ x, f x) * c = ∑ x, f x * c := by
  refine Finset.induction_on (motive := fun s => (∑ x ∈ s, f x) * c = ∑ x ∈ s, f x * c) Finset.univ (by simp) ?_
  intro a s ha ih
  rw [Finset.sum_insert ha, Finset.sum_insert ha, EReal.right_distrib_of_nonneg_of_ne_top h0 ht, ih]

theorem exp_term_zero (s M u : EReal) (h : s = ⊥) : Ideal.exp (s - M) * u = 0 := by
  rw [h, exp_bot_sub, zero_mul]

/-- Keys at `-∞` weigh nothing. -/
theorem attend_window {n m k : Nat} (e : Fin n → Fin m) (he : Function.Injective e) (s : Fin m → EReal) (c : Fin k → EReal)
    (v : Fin m → EReal) (w : Fin k → EReal) (hs : ∀ x, (∀ y, e y ≠ x) → s x = ⊥) :
    attend s c v w = attend (fun y => s (e y)) c (fun y => v (e y)) w := by
  have hM : Finset.univ.fold max ⊥ s = Finset.univ.fold max ⊥ (fun y => s (e y)) := by
    rw [fold_max_eq, fold_max_eq]
    refine le_antisymm (Finset.sup_le fun x _ => ?_) (Finset.sup_le fun y _ => Finset.le_sup (f := s) (Finset.mem_univ (e y)))
    by_cases hx : ∃ y, e y = x
    · obtain ⟨y, rfl⟩ := hx
      exact Finset.le_sup (f := fun y => s (e y)) (Finset.mem_univ y)
    · rw [hs x (fun y hy => hx ⟨y, hy⟩)]
      exact bot_le
  have hsum : ∀ f : Fin m → EReal, (∀ x, s x = ⊥ → f x = 0) → ∑ x, f x = ∑ y, f (e y) := by
    intro f hf
    refine (Finset.sum_of_injOn e he.injOn (fun y _ => Finset.mem_coe.2 (Finset.mem_univ _)) ?_ fun y _ => rfl).symm
    intro x _ hx
    exact hf x (hs x fun y hy => hx ⟨y, Finset.mem_coe.2 (Finset.mem_univ _), hy⟩)
  unfold attend
  simp only
  rw [hM, hsum _ (fun x hx => by rw [hx, exp_bot_sub, zero_mul]), hsum _ (fun x hx => by rw [hx, exp_bot_sub])]

theorem sum_joined (f : Fin 384 → EReal) : ∑ z, f z = (∑ x : Fin 128, f ⟨x.val, by omega⟩) + ∑ x : Fin 256, f ⟨128 + x.val, by omega⟩ :=
  Fin.sum_univ_add (a := 128) (b := 256) f

theorem max_joined (f : Fin 384 → EReal) : max ⊥ (Finset.univ.fold max ⊥ f)
    = max (Finset.univ.fold max ⊥ fun x : Fin 128 => f ⟨x.val, by omega⟩) (Finset.univ.fold max ⊥ fun x : Fin 256 => f ⟨128 + x.val, by omega⟩) := by
  rw [fold_max_eq, fold_max_eq, fold_max_eq]
  rw [max_eq_right bot_le]
  refine le_antisymm (Finset.sup_le fun z _ => ?_) (max_le (Finset.sup_le fun x _ => Finset.le_sup (f := f) (Finset.mem_univ _))
    (Finset.sup_le fun x _ => Finset.le_sup (f := f) (Finset.mem_univ _)))
  by_cases hz : z.val < 128
  · exact le_max_of_le_left (Finset.le_sup (f := fun x : Fin 128 => f ⟨x.val, by omega⟩) (Finset.mem_univ ⟨z.val, hz⟩))
  · refine le_max_of_le_right ?_
    have := Finset.le_sup (f := fun x : Fin 256 => f ⟨128 + x.val, by omega⟩) (Finset.mem_univ ⟨z.val - 128, by omega⟩)
    refine le_of_eq_of_le (congrArg f (Fin.ext ?_)) this
    simp only
    omega

/-- Softmax over the neighbours and the context side by side, then the product with the values: the same as dividing last. -/
theorem softmax_attend (Z : Fin 384 → EReal) (V : Fin 128 → EReal) (W : Fin 256 → EReal) (ht : ∀ z, Z z ≠ ⊤) (hb : Z 0 ≠ ⊥) :
    (∑ x : Fin 128, Ideal.div (Ideal.exp (Z ⟨x.val, by omega⟩ - max ⊥ (Finset.univ.fold max ⊥ Z)))
        (∑ z, Ideal.exp (Z z - max ⊥ (Finset.univ.fold max ⊥ Z))) * V x)
      + (∑ x : Fin 256, W x * Ideal.div (Ideal.exp (Z ⟨128 + x.val, by omega⟩ - max ⊥ (Finset.univ.fold max ⊥ Z)))
        (∑ z, Ideal.exp (Z z - max ⊥ (Finset.univ.fold max ⊥ Z))))
      = attend (fun x => Z ⟨x.val, by omega⟩) (fun x => Z ⟨128 + x.val, by omega⟩) V W := by
  have hM : max ⊥ (Finset.univ.fold max ⊥ Z) ≠ ⊤ := by
    rw [fold_max_eq, max_eq_right bot_le]
    exact (Finset.sup_lt_iff bot_lt_top).2 (fun z _ => lt_top_iff_ne_top.2 (ht z)) |>.ne
  have hD : 0 < ∑ z, Ideal.exp (Z z - max ⊥ (Finset.univ.fold max ⊥ Z)) := by
    refine lt_of_lt_of_le (exp_pos (Z 0 - max ⊥ (Finset.univ.fold max ⊥ Z)) ?_)
      (Finset.single_le_sum (f := fun z => Ideal.exp (Z z - max ⊥ (Finset.univ.fold max ⊥ Z))) (fun z _ => exp_nonneg _) (Finset.mem_univ 0))
    rw [sub_eq_add_neg]
    intro h
    rcases EReal.add_eq_bot_iff.1 h with h | h
    · exact hb h
    · exact hM (EReal.neg_eq_bot_iff.1 h)
  unfold attend
  simp only
  rw [← max_joined Z, ← sum_joined (fun z => Ideal.exp (Z z - max ⊥ (Finset.univ.fold max ⊥ Z)))]
  generalize (∑ z, Ideal.exp (Z z - max ⊥ (Finset.univ.fold max ⊥ Z))) = D at hD
  have hi : 0 ≤ D⁻¹ := EReal.inv_nonneg_of_nonneg hD.le
  have hj : D⁻¹ ≠ ⊤ := by
    induction D with
    | bot => exact absurd hD (by simp)
    | top => simp
    | coe r => rw [← EReal.coe_inv]; exact EReal.coe_ne_top _
  have hdiv : ∀ x : EReal, Ideal.div x D = x * D⁻¹ := fun x => if_neg hD.ne'
  simp only [hdiv]
  rw [EReal.right_distrib_of_nonneg_of_ne_top hi hj, sum_mul_nonneg _ _ hi hj, sum_mul_nonneg _ _ hi hj]
  refine congrArg₂ (· + ·) (Finset.sum_congr rfl fun x _ => ?_) (Finset.sum_congr rfl fun x _ => ?_)
  · rw [mul_assoc, mul_comm D⁻¹, ← mul_assoc]
  · rw [mul_comm (W x), mul_assoc, mul_comm D⁻¹, ← mul_assoc]

/-- A real number, neither of the two infinities. -/
def Finite (x : EReal) : Prop := ∃ r : ℝ, (r : EReal) = x
theorem Finite.add {x y : EReal} : Finite x → Finite y → Finite (x + y)
  | ⟨a, ha⟩, ⟨b, hb⟩ => ⟨a + b, by rw [EReal.coe_add, ha, hb]⟩
theorem Finite.mul {x y : EReal} : Finite x → Finite y → Finite (x * y)
  | ⟨a, ha⟩, ⟨b, hb⟩ => ⟨a * b, by rw [EReal.coe_mul, ha, hb]⟩
theorem Finite.sum {n : Nat} (f : Fin n → EReal) (h : ∀ x, Finite (f x)) : Finite (∑ x, f x) := by
  refine Finset.induction_on (motive := fun s => Finite (∑ x ∈ s, f x)) Finset.univ ⟨0, by simp⟩ ?_
  intro a s ha ih
  rw [Finset.sum_insert ha]
  exact (h a).add ih
theorem Finite.ne_top {x : EReal} : Finite x → x ≠ ⊤
  | ⟨a, ha⟩ => ha ▸ EReal.coe_ne_top a
theorem Finite.ne_bot {x : EReal} : Finite x → x ≠ ⊥
  | ⟨a, ha⟩ => ha ▸ EReal.coe_ne_bot a
end Cert.Na
-- ==== Proof.Ref.lean ====
/- THE REFERENCE READ AT AN INDEX: attention over the query's neighbours and the context. -/
module

public import proofs.«01_k».proof.Proof.RefInt
public import proofs.«01_k».proof.Proof.Softmax

@[expose] public section

set_option maxRecDepth 16384

noncomputable section

namespace Cert.NaRef

open Cert.ReferenceIdeal Cert.ReferenceIdeal.Gen Cert.ReferenceIdeal.Read
open Idealize.ShloMosaic Idealize.ShloMosaic.TcCoe Idealize.SL.Sem
open Cert.Na (Finite attend)

theorem reduceMax_at (Z : FVec Ideal S2x8x8192x384 .f32) (b : Fin 2) (h : Fin 8) (T : Fin 8192) :
    Host.reduce FloatOps.maximumf Z (val_main_cst (F := Ideal)) reducesTo_S2x8x8192x384_S2x8x8192_d3 h_S_ (ix3 b h T)
      = Finset.univ.fold max ⊥ (fun n : Fin 384 => Z (ix4 b h T n)) := by
  unfold val_main_cst
  pointwise
  exact congrArg (fun u => Finset.univ.fold max u (fun n : Fin 384 => Z (ix4 b h T n))) Cert.Na.negInf
theorem reduceAdd_at (Z : FVec Ideal S2x8x8192x384 .f32) (b : Fin 2) (h : Fin 8) (T : Fin 8192) :
    Host.reduceAdd Z (val_main_cst_10 (F := Ideal)) reducesTo_S2x8x8192x384_S2x8x8192_d3 h_S_ (ix3 b h T)
      = ∑ n : Fin 384, Z (ix4 b h T n) := by
  unfold val_main_cst_10
  pointwise

/-- The reference's shift: the greatest of the logits. -/
theorem max_at (x0 : Vec Ideal S2x8192x512 .bf16) (x1 : Vec Ideal S2x64x512x128 .bf16) (x3 : Vec Ideal S2x2x512x128 .bf16) (x5 : Vec Ideal S1x8x15x31 .f32)
    (b : Fin 2) (h : Fin 8) (T : Fin 8192) :
    val_main_v73 x0 x1 x3 x5 (ix3 b h T) = max ⊥ (Finset.univ.fold max ⊥ fun n : Fin 384 => val_main_v70 x0 x1 x3 x5 (ix4 b h T n)) := by
  refine Eq.trans (b := max (val_main_v72 (F := Ideal) (ix3 b h T)) (val_main_v71 x0 x1 x3 x5 (ix3 b h T))) (val_main_v73_apply _ _ _ _ _) ?_
  refine congrArg₂ max ?_ (reduceMax_at _ b h T)
  rw [val_main_v72_apply]
  exact Cert.Na.negInf
theorem exp_at (x0 : Vec Ideal S2x8192x512 .bf16) (x1 : Vec Ideal S2x64x512x128 .bf16) (x3 : Vec Ideal S2x2x512x128 .bf16) (x5 : Vec Ideal S1x8x15x31 .f32)
    (b : Fin 2) (h : Fin 8) (T : Fin 8192) (n : Fin 384) :
    val_main_v77 x0 x1 x3 x5 (ix4 b h T n) = Ideal.exp (val_main_v70 x0 x1 x3 x5 (ix4 b h T n) - val_main_v73 x0 x1 x3 x5 (ix3 b h T)) := by
  unfold val_main_v77 val_main_v76 val_main_v75 val_main_v74
  generalize val_main_v73 x0 x1 x3 x5 = Y
  generalize val_main_v70 x0 x1 x3 x5 = Z
  pointwise
theorem weight_div (x0 : Vec Ideal S2x8192x512 .bf16) (x1 : Vec Ideal S2x64x512x128 .bf16) (x3 : Vec Ideal S2x2x512x128 .bf16) (x5 : Vec Ideal S1x8x15x31 .f32)
    (b : Fin 2) (h : Fin 8) (T : Fin 8192) (n : Fin 384) :
    val_main_v81 x0 x1 x3 x5 (ix4 b h T n) = Ideal.div (val_main_v77 x0 x1 x3 x5 (ix4 b h T n)) (val_main_v78 x0 x1 x3 x5 (ix3 b h T)) := by
  unfold val_main_v81 val_main_v80 val_main_v79
  generalize val_main_v77 x0 x1 x3 x5 = Y
  generalize val_main_v78 x0 x1 x3 x5 = Z
  pointwise

/-- A query's logits, the neighbours' and then the context's. -/
def logits (x0 : Vec Ideal S2x8192x512 .bf16) (x1 : Vec Ideal S2x64x512x128 .bf16) (x3 : Vec Ideal S2x2x512x128 .bf16) (x5 : Vec Ideal S1x8x15x31 .f32) (b : Fin 2) (h : Fin 8) (T : Fin 8192) (n : Fin 384) : EReal :=
  val_main_v70 x0 x1 x3 x5 (ix4 b h T n)

/-- The reference's weights. -/
theorem weight_at (x0 : Vec Ideal S2x8192x512 .bf16) (x1 : Vec Ideal S2x64x512x128 .bf16) (x3 : Vec Ideal S2x2x512x128 .bf16) (x5 : Vec Ideal S1x8x15x31 .f32)
    (b : Fin 2) (h : Fin 8) (T : Fin 8192) (n : Fin 384) :
    val_main_v81 x0 x1 x3 x5 (ix4 b h T n)
      = Ideal.div (Ideal.exp (logits x0 x1 x3 x5 b h T n - max ⊥ (Finset.univ.fold max ⊥ (logits x0 x1 x3 x5 b h T))))
          (∑ z, Ideal.exp (logits x0 x1 x3 x5 b h T z - max ⊥ (Finset.univ.fold max ⊥ (logits x0 x1 x3 x5 b h T)))) := by
  have e : ∀ z, val_main_v77 x0 x1 x3 x5 (ix4 b h T z)
      = Ideal.exp (logits x0 x1 x3 x5 b h T z - max ⊥ (Finset.univ.fold max ⊥ (logits x0 x1 x3 x5 b h T))) := fun z =>
    (exp_at x0 x1 x3 x5 b h T z).trans (congrArg (fun u => Ideal.exp (logits x0 x1 x3 x5 b h T z - u)) (max_at x0 x1 x3 x5 b h T))
  refine (weight_div x0 x1 x3 x5 b h T n).trans (congrArg₂ Ideal.div (e n) ?_)
  exact (reduceAdd_at _ b h T).trans (Finset.sum_congr rfl fun z _ => e z)

/-- The logit of neighbour `n`. -/
def nearLogit (x0 : Vec Ideal S2x8192x512 .bf16) (x1 : Vec Ideal S2x64x512x128 .bf16) (x5 : Vec Ideal S1x8x15x31 .f32)
    (b : Fin 2) (h : Fin 8) (T : Fin 8192) (n : Fin 128) : EReal :=
  (∑ d : Fin 64, x0 (ix3 b T ⟨h.val * 64 + d.val, by omega⟩)
      * x1 (ix4 b ⟨(nearKey T n).val / 128, by omega⟩ ⟨h.val * 64 + d.val, by omega⟩ ⟨(nearKey T n).val % 128, by omega⟩))
    + x5 (ix4 0 h (nearRow T n) (nearCol T n))
/-- The logit of context token `n`. -/
def ctxLogit (x0 : Vec Ideal S2x8192x512 .bf16) (x3 : Vec Ideal S2x2x512x128 .bf16)
    (b : Fin 2) (h : Fin 8) (T : Fin 8192) (n : Fin 256) : EReal :=
  ∑ d : Fin 64, x0 (ix3 b T ⟨h.val * 64 + d.val, by omega⟩) * x3 (ix4 b ⟨n.val / 128, by omega⟩ ⟨h.val * 64 + d.val, by omega⟩ ⟨n.val % 128, by omega⟩)

theorem near_at (x0 : Vec Ideal S2x8192x512 .bf16) (x1 : Vec Ideal S2x64x512x128 .bf16) (x5 : Vec Ideal S1x8x15x31 .f32)
    (b : Fin 2) (h : Fin 8) (T : Fin 8192) (n : Fin 128) :
    val_main_v66 x0 x1 x5 (ix4 b h T n) = nearLogit x0 x1 x5 b h T n := by
  pointwise [val_main_v66, val_main_v65, val_main_v64, val_main_v63, val_main_v62, val_main_v59, val_main_v0]
  exact congrArg₂ (· + ·) (Finset.sum_congr rfl fun d _ => congrArg (_ * ·) (key_at x1 b T n _)) (bias_at x5 h T n)
theorem ctx_at (x0 : Vec Ideal S2x8192x512 .bf16) (x3 : Vec Ideal S2x2x512x128 .bf16)
    (b : Fin 2) (h : Fin 8) (T : Fin 8192) (n : Fin 256) :
    val_main_v69 x0 x3 (ix4 b h T n) = ctxLogit x0 x3 b h T n := by
  unfold ctxLogit
  pointwise [val_main_v69, val_main_v67, val_main_v68, val_main_v0, val_main_v8, val_main_v7, val_main_v6]
theorem logits_near (x0 : Vec Ideal S2x8192x512 .bf16) (x1 : Vec Ideal S2x64x512x128 .bf16) (x3 : Vec Ideal S2x2x512x128 .bf16) (x5 : Vec Ideal S1x8x15x31 .f32)
    (b : Fin 2) (h : Fin 8) (T : Fin 8192) (n : Fin 128) : logits x0 x1 x3 x5 b h T ⟨n.val, by omega⟩ = nearLogit x0 x1 x5 b h T n := by
  unfold logits
  pointwise [val_main_v70]
  exact near_at x0 x1 x5 b h T n
theorem logits_ctx (x0 : Vec Ideal S2x8192x512 .bf16) (x1 : Vec Ideal S2x64x512x128 .bf16) (x3 : Vec Ideal S2x2x512x128 .bf16) (x5 : Vec Ideal S1x8x15x31 .f32)
    (b : Fin 2) (h : Fin 8) (T : Fin 8192) (n : Fin 256) : logits x0 x1 x3 x5 b h T ⟨128 + n.val, by omega⟩ = ctxLogit x0 x3 b h T n := by
  unfold logits
  pointwise [val_main_v70]
  exact ctx_at x0 x3 b h T n

theorem products_at (x0 : Vec Ideal S2x8192x512 .bf16) (x1 : Vec Ideal S2x64x512x128 .bf16) (x2 : Vec Ideal S2x8192x512 .bf16)
    (x3 : Vec Ideal S2x2x512x128 .bf16) (x4 : Vec Ideal S2x256x512 .bf16) (x5 : Vec Ideal S1x8x15x31 .f32)
    (b : Fin 2) (T : Fin 8192) (L : Fin 512) :
    val_main_v90 x0 x1 x2 x3 x4 x5 (ix3 b T L)
      = (∑ x : Fin 128, val_main_v81 x0 x1 x3 x5 (ix4 b ⟨L.val / 64, by omega⟩ T ⟨x.val, by omega⟩) * val_main_v60 x2 (ix4 b T x L))
        + ∑ x : Fin 256, x4 (ix3 b x L) * val_main_v81 x0 x1 x3 x5 (ix4 b ⟨L.val / 64, by omega⟩ T ⟨128 + x.val, by omega⟩) := by
  unfold val_main_v90 val_main_v89 val_main_v88 val_main_v87 val_main_v86 val_main_v85 val_main_v84 val_main_v83 val_main_v82 val_main_v61 val_main_v2
  generalize val_main_v81 x0 x1 x3 x5 = Y
  generalize val_main_v60 x2 = Z
  pointwise

/-- The reference at an index, where the arguments of the logits are finite. -/
theorem result_at (x0 : Vec Ideal S2x8192x512 .bf16) (x1 : Vec Ideal S2x64x512x128 .bf16) (x2 : Vec Ideal S2x8192x512 .bf16)
    (x3 : Vec Ideal S2x2x512x128 .bf16) (x4 : Vec Ideal S2x256x512 .bf16) (x5 : Vec Ideal S1x8x15x31 .f32)
    (f0 : ∀ i, Finite (x0 i)) (f1 : ∀ i, Finite (x1 i)) (f3 : ∀ i, Finite (x3 i)) (f5 : ∀ i, Finite (x5 i))
    (b : Fin 2) (T : Fin 8192) (L : Fin 512) :
    val_main_v90 x0 x1 x2 x3 x4 x5 (ix3 b T L)
      = attend (nearLogit x0 x1 x5 b ⟨L.val / 64, by omega⟩ T) (ctxLogit x0 x3 b ⟨L.val / 64, by omega⟩ T)
          (fun n => x2 (ix3 b (nearKey T n) L)) (fun n => x4 (ix3 b n L)) := by
  have fn : ∀ h n, Finite (nearLogit x0 x1 x5 b h T n) := fun h n => (Finite.sum _ fun d => (f0 _).mul (f1 _)).add (f5 _)
  have fc : ∀ h n, Finite (ctxLogit x0 x3 b h T n) := fun h n => Finite.sum _ fun d => (f0 _).mul (f3 _)
  have fz : ∀ h z, Finite (logits x0 x1 x3 x5 b h T z) := by
    intro h z
    by_cases hz : z.val < 128
    · exact (logits_near x0 x1 x3 x5 b h T ⟨z.val, hz⟩) ▸ fn h ⟨z.val, hz⟩
    · have e : z = ⟨128 + (z.val - 128), by omega⟩ := Fin.ext (by simp only; omega)
      rw [e]
      exact (logits_ctx x0 x1 x3 x5 b h T ⟨z.val - 128, by omega⟩) ▸ fc h ⟨z.val - 128, by omega⟩
  have key := Cert.Na.softmax_attend (logits x0 x1 x3 x5 b ⟨L.val / 64, by omega⟩ T) (fun n => x2 (ix3 b (nearKey T n) L)) (fun n => x4 (ix3 b n L))
    (fun z => (fz _ z).ne_top) (fz _ 0).ne_bot
  rw [funext fun n => logits_near x0 x1 x3 x5 b ⟨L.val / 64, by omega⟩ T n, funext fun n => logits_ctx x0 x1 x3 x5 b ⟨L.val / 64, by omega⟩ T n] at key
  refine (products_at x0 x1 x2 x3 x4 x5 b T L).trans (Eq.trans ?_ key)
  refine congrArg₂ (· + ·) (Finset.sum_congr rfl fun n _ => congrArg₂ (· * ·) (weight_at x0 x1 x3 x5 b _ T _) (value_at x2 b T n L))
    (Finset.sum_congr rfl fun n _ => congrArg (_ * ·) (weight_at x0 x1 x3 x5 b _ T _))
end Cert.NaRef
-- ==== Proof.Join.lean ====
/- THE KERNEL AND THE REFERENCE COMPUTE THE SAME.  The window holds every neighbour, and the table of biases is `-∞` at all its
   other keys, so attention over the window is attention over the neighbours. -/
module

public import proofs.«01_k».proof.Proof.Bias
public import proofs.«01_k».proof.Proof.Attention
public import proofs.«01_k».proof.Proof.Ref
public import Idealize.ShloMosaic.Lib.Pipeline.ValueKit
public import Idealize.ShloMosaic.Lib.Pointwise
import Idealize.ShloMosaic.Lib.Claim

@[expose] public section

set_option maxRecDepth 16384

noncomputable section

namespace Cert.Na

open Cert.KernelIdeal Cert.KernelIdeal.Gen
open Idealize.ShloMosaic Idealize.ShloMosaic.TcCoe Idealize.SL.Sem
open Idealize.ShloMosaic.Pipeline (Dat)

open Cert.NaRef (nearKey nearRow nearCol nearLogit ctxLogit)

/-- Where the window of token `T` holds its neighbour `n`. -/
def place (T : Fin 8192) (n : Fin 128) : Fin 640 :=
  ⟨(rowStart (T.val / 64) + n.val / 16 - 2 * st (T.val / 128)) * 64 + (colStart (T.val % 64) + n.val % 16), by
    unfold rowStart colStart st
    omega⟩

theorem rowIn_window (T : Fin 8192) : 2 * st (T.val / 128) ≤ rowStart (T.val / 64) ∧ rowStart (T.val / 64) ≤ 2 * st (T.val / 128) + 2 := by
  unfold rowStart st
  omega
theorem col_bound (x : ℕ) : colStart x ≤ 48 := by unfold colStart; omega
theorem row_bound (x : ℕ) : rowStart x ≤ 120 := by unfold rowStart; omega

theorem place_injective (T : Fin 8192) : Function.Injective (place T) := by
  intro a b h
  have h1 := congrArg Fin.val h
  have h2 := rowIn_window T
  have h3 := col_bound (T.val % 64)
  unfold place at h1
  simp only at h1
  generalize rowStart (T.val / 64) = R at h1 h2
  generalize colStart (T.val % 64) = C at h1 h3
  generalize st (T.val / 128) = S at h1 h2
  apply Fin.ext
  omega

/-- A key of the window that the query sees is one of its neighbours. -/
theorem place_near (T : Fin 8192) (w : Fin 640)
    (h : Near (T.val / 64) (T.val % 64) (2 * st (T.val / 128) + w.val / 64) (w.val % 64)) : ∃ n, place T n = w := by
  obtain ⟨⟨h1, h2⟩, h3, h4⟩ := h
  have h5 := rowIn_window T
  have h6 := col_bound (T.val % 64)
  refine ⟨⟨(2 * st (T.val / 128) + w.val / 64 - rowStart (T.val / 64)) * 16 + (w.val % 64 - colStart (T.val % 64)), by omega⟩, Fin.ext ?_⟩
  unfold place
  simp only
  generalize rowStart (T.val / 64) = R at *
  generalize colStart (T.val % 64) = C at *
  generalize st (T.val / 128) = S at *
  omega
/-- The query sees its neighbours. -/
theorem near_place (T : Fin 8192) (n : Fin 128) :
    Near (T.val / 64) (T.val % 64) (2 * st (T.val / 128) + (place T n).val / 64) ((place T n).val % 64) := by
  have h5 := rowIn_window T
  have h6 := col_bound (T.val % 64)
  unfold Near place
  simp only
  generalize rowStart (T.val / 64) = R at *
  generalize colStart (T.val % 64) = C at *
  generalize st (T.val / 128) = S at *
  omega
/-- The token at that place of the window. -/
theorem place_key (T : Fin 8192) (n : Fin 128) : 128 * st (T.val / 128) + (place T n).val = (nearKey T n).val := by
  have h5 := rowIn_window T
  unfold place nearKey
  simp only
  generalize rowStart (T.val / 64) = R at *
  generalize st (T.val / 128) = S at *
  omega

section
variable (x : Vec Ideal S1x8x15x31 .f32)

/-- The table of biases at a token's row. -/
theorem table_row (T : Fin 8192) (L : Fin 512) (w : Fin 640) :
    tables (tapsOf (picked (extended x))) seenF (vr (T.val / 128)) ⟨L.val / 256, by omega⟩ ⟨L.val / 64 % 4 * 128 + T.val % 128, by omega⟩ w
      = if Near (T.val / 64) (T.val % 64) (2 * st (T.val / 128) + w.val / 64) (w.val % 64)
        then biasOf x ⟨L.val / 64, by omega⟩ (T.val / 64) (T.val % 64) (2 * st (T.val / 128) + w.val / 64) (w.val % 64) else ⊥ := by
  have key := tables_apply x ⟨T.val / 128, by omega⟩ ⟨T.val / 64 % 2, by omega⟩ ⟨T.val % 64, by omega⟩ ⟨L.val / 64, by omega⟩ w
  have e1 : (⟨L.val / 64 / 4, by omega⟩ : Fin 2) = ⟨L.val / 256, by omega⟩ := Fin.ext (by simp only; omega)
  have e2 : (⟨L.val / 64 % 4 * 128 + (T.val / 64 % 2 * 64 + T.val % 64), by omega⟩ : Fin 512) = ⟨L.val / 64 % 4 * 128 + T.val % 128, by omega⟩ :=
    Fin.ext (by simp only; omega)
  have e3 : 2 * (T.val / 128) + T.val / 64 % 2 = T.val / 64 := by omega
  simp only [e1, e2, e3] at key
  exact key

/-- The bias there, for a neighbour. -/
theorem bias_near (T : Fin 8192) (h : Fin 8) (n : Fin 128) :
    biasOf x h (T.val / 64) (T.val % 64) (2 * st (T.val / 128) + (place T n).val / 64) ((place T n).val % 64) = x (ix4 0 h (nearRow T n) (nearCol T n)) := by
  have h5 := rowIn_window T
  have h6 := col_bound (T.val % 64)
  have h7 := (nearRow T n).isLt
  have h8 := (nearCol T n).isLt
  unfold biasOf
  refine congrArg₂ (fun a b => x (ix4 0 h a b)) (Fin.ext ?_) (Fin.ext ?_)
  · unfold nearRow at *
    unfold place
    simp only at *
    generalize rowStart (T.val / 64) = R at *
    generalize colStart (T.val % 64) = C at *
    generalize st (T.val / 128) = S at *
    omega
  · unfold nearCol at *
    unfold place
    simp only at *
    generalize rowStart (T.val / 64) = R at *
    generalize colStart (T.val % 64) = C at *
    generalize st (T.val / 128) = S at *
    omega

/-- Attention over the window is attention over the neighbours. -/
theorem windowAt_eq (Q : Vec Ideal S2x8192x512 .bf16) (KT : Vec Ideal S2x64x512x128 .bf16) (U : Vec Ideal S2x8192x512 .bf16)
    (KC : Vec Ideal S2x2x512x128 .bf16) (UC : Vec Ideal S2x256x512 .bf16) (B : Vec Ideal S5x2x512x640 .f32)
    (hB : B = fun y => tables (tapsOf (picked (extended x))) seenF (y 0) (y 1) (y 2) (y 3)) (b : Fin 2) (T : Fin 8192) (L : Fin 512) :
    windowAt Q KT U KC UC B b T L
      = attend (nearLogit Q KT x b ⟨L.val / 64, by omega⟩ T) (ctxLogit Q KC b ⟨L.val / 64, by omega⟩ T)
          (fun n => U (ix3 b (nearKey T n) L)) (fun n => UC (ix3 b n L)) := by
  have hb : ∀ w, B (ix4 (vr (T.val / 128)) ⟨L.val / 256, by omega⟩ ⟨L.val / 64 % 4 * 128 + T.val % 128, by omega⟩ w)
      = if Near (T.val / 64) (T.val % 64) (2 * st (T.val / 128) + w.val / 64) (w.val % 64)
        then biasOf x ⟨L.val / 64, by omega⟩ (T.val / 64) (T.val % 64) (2 * st (T.val / 128) + w.val / 64) (w.val % 64) else ⊥ := fun w =>
    (congrFun hB _).trans (table_row x T L w)
  unfold windowAt
  refine (attend_window (place T) (place_injective T) _ _ _ _ ?_).trans ?_
  · intro w hw
    rw [hb w, if_neg (fun hn => by obtain ⟨n, hn⟩ := place_near T w hn; exact hw n hn)]
    exact EReal.add_bot _
  · have e1 : ∀ n, (∑ d, Q (ix3 b T (headLane L d)) * KT (ix4 b (kblk (T.val / 128) (place T n)) (headLane L d) ⟨(place T n).val % 128, Nat.mod_lt _ (by decide)⟩))
          + B (ix4 (vr (T.val / 128)) ⟨L.val / 256, by omega⟩ ⟨L.val / 64 % 4 * 128 + T.val % 128, by omega⟩ (place T n))
        = nearLogit Q KT x b ⟨L.val / 64, by omega⟩ T n := by
      intro n
      have hk := place_key T n
      rw [hb, if_pos (near_place T n), bias_near]
      unfold nearLogit
      refine congrArg (· + _) (Finset.sum_congr rfl fun d _ => congrArg (_ * ·) ?_)
      refine congrArg₂ (fun u v => KT (ix4 b u (headLane L d) v)) (Fin.ext ?_) (Fin.ext ?_)
      · unfold kblk
        simp only
        omega
      · simp only
        omega
    have e2 : ∀ n, U (ix3 b (vrow (T.val / 128) (place T n)) L) = U (ix3 b (nearKey T n) L) := fun n =>
      congrArg (fun u => U (ix3 b u L)) (Fin.ext (place_key T n))
    rw [funext e1, funext e2]
    rfl
end
end Cert.Na
-- ==== Proof.Run.lean ====
/- THE KERNEL'S RUN, WITH ITS RESULT NAMED: at every index the attention over the neighbours and the context. -/
module

public import proofs.«01_k».proof.Proof.Join
public import proofs.«01_k».proof.Proof.Host
public import proofs.«01_k».proof.Proof.Gen.KernelIdeal.Frame
public import proofs.«01_k».proof.Proof.Gen.KernelIdeal.Frame
public import Idealize.ShloMosaic.Lib.Pipeline.ValueKit
public import Idealize.ShloMosaic.Lib.Pointwise
import Idealize.ShloMosaic.Lib.Claim

@[expose] public section

set_option maxRecDepth 16384

noncomputable section

namespace Cert.Na

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel's result, as a function of what the arguments hold. -/
def attention (c : Dev nD) : Buf (Elt Ideal) ((c : Thread nD τ).loc main_v39) := fun y =>
  windowAt (m ((c : Thread nD τ).loc main_arg0)) (m ((c : Thread nD τ).loc main_arg1)) (m ((c : Thread nD τ).loc main_arg2))
    (m ((c : Thread nD τ).loc main_arg3)) (m ((c : Thread nD τ).loc main_arg4))
    (fun y => tables (tapsOf (picked (extended (m ((c : Thread nD τ).loc main_arg5))))) seenF (y 0) (y 1) (y 2) (y 3)) (y 0) (y 1) (y 2)

theorem entry_tables (c : Dev nD) : V10 m ρ c main_v38
    = fun y => tables (tapsOf (picked (extended (m ((c : Thread nD τ).loc main_arg5))))) seenF (y 0) (y 1) (y 2) (y 3) := by
  refine (W10_arr m ρ c 2).trans ((final0 (V9 m ρ) c).trans ?_)
  rw [entry_taps, entry_seen]

theorem result_eq (c : Dev nD) : W11 m ρ c (Proc.devRef .tc main_v39) = attention m c := by
  refine (W11_arr m ρ c 7).trans ((final1 (V10 m ρ) c).trans ?_)
  rw [entry_tables]
  have a0 : V10 m ρ c main_arg0 = m ((c : Thread nD τ).loc main_arg0) := W10_args m ρ c main_arg0 (by decide)
  have a1 : V10 m ρ c main_arg1 = m ((c : Thread nD τ).loc main_arg1) := W10_args m ρ c main_arg1 (by decide)
  have a2 : V10 m ρ c main_arg2 = m ((c : Thread nD τ).loc main_arg2) := W10_args m ρ c main_arg2 (by decide)
  have a3 : V10 m ρ c main_arg3 = m ((c : Thread nD τ).loc main_arg3) := W10_args m ρ c main_arg3 (by decide)
  have a4 : V10 m ρ c main_arg4 = m ((c : Thread nD τ).loc main_arg4) := W10_args m ρ c main_arg4 (by decide)
  rw [a0, a1, a2, a3, a4]
  rfl
end Cert.Na

namespace Cert.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every execution ends with the result at `attention` and the arguments as launched. -/
theorem run : θ_run (defs (F := Ideal)) (onTc (τ := τ) (main (F := Ideal))) ⟨m, fun _ => 0, ρ⟩ (fun r => ∀ c : Dev nD,
      r.2.mem ((c.tc : Thread nD τ).loc main_v39) = attention m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz c =>
      ⟨(h c _ (mem_uc main_v39 (by decide))).trans (result_eq m ρ c),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)
end Cert.Na
-- ==== Proof.Proj.lean ====
/- THE PROJECTIONS' BODY: what each of the eight results is at an index, in terms of the argument arrays. -/
module

public import proofs.«01_k».proof.Proof.Gen.Kernel2Ideal.Frame
public import Idealize.ShloMosaic.Lib.Pipeline.ValueKit
public import Idealize.ShloMosaic.Lib.Pointwise
import Idealize.ShloMosaic.Lib.Claim

@[expose] public section

set_option maxRecDepth 16384

noncomputable section

namespace Cert.Proj

open Cert.Kernel2Ideal Cert.Kernel2Ideal.Gen
open Idealize.ShloMosaic Idealize.ShloMosaic.TcCoe Idealize.SL.Sem
open Idealize.ShloMosaic.Pipeline (Dat)

/-- An entry of the hidden state that is projected: normalised by its row, weighted, scaled and shifted. -/
def normed (X : Vec Ideal S2x8192x1024 .f32) (SC SH : Vec Ideal S2x1x1024 .f32) (NW : Vec Ideal S1x1024 .f32)
    (b : Fin 2) (T : Fin 8192) (k : Fin 1024) : EReal :=
  X (ix3 b T k) * Ideal.rsqrt (Ideal.div (∑ x, X (ix3 b T x) * X (ix3 b T x)) (Ideal.ofBits FTy.f32 1149239296#32) + Ideal.ofBits FTy.f32 897988541#32)
    * NW (ix2 0 k) * (1 + SC (ix3 b 0 k)) + SH (ix3 b 0 k)

/-- Its projection to column `n`. -/
def proj (X : Vec Ideal S2x8192x1024 .f32) (SC SH : Vec Ideal S2x1x1024 .f32) (NW : Vec Ideal S1x1024 .f32) (W : Vec Ideal S1x1024x4096 .f32)
    (b : Fin 2) (T : Fin 8192) (n : Fin 4096) : EReal := ∑ k, normed X SC SH NW b T k * W (ix3 0 k n)

/-- The first layer's lower bound of the forget gate, for direction `d`: a softmax over the layers. -/
def lower (L : Vec Ideal S2x2x512 .f32) (d : Fin 2) (e : Fin 512) : EReal :=
  Ideal.div (Ideal.exp (L (ix3 0 d e) - Finset.univ.fold max ⊥ (fun x => L (ix3 x d e))))
    (∑ x, Ideal.exp (L (ix3 x d e) - Finset.univ.fold max ⊥ (fun x => L (ix3 x d e))))

/-- One half, as the version writes it. -/
def half : EReal := Ideal.ofBits FTy.f32 1056964608#32
/-- The version's silu and its logistic function, by the hyperbolic tangent. -/
def tsilu (x : EReal) : EReal := half * x * Ideal.tanh (half * x) + half * x
def tsig (x : EReal) : EReal := half * Ideal.tanh (half * x) + half
/-- The logarithm of the forget gate. -/
def logForget (l x : EReal) : EReal := Ideal.log (l + (1 - l) * tsig x)

/-- Column `e` of group `g` of the projection. -/
def col (g : Fin 8) (e : Fin 512) : Fin 4096 := ⟨g.val * 512 + e.val, by omega⟩

theorem minusInf : Ideal.ofBits FTy.f32 4286578688#32 = ⊥ := by simp [Ideal.ofBits, Ideal.ieee]

variable (m : (ℓ : Loc nD τ sig) → Buf (Elt Ideal) ℓ)

/-- The windows' block indices. -/
theorem idx : ∀ t : Fin cfg0.N,
    win0_0.index t = ![t.val / 8, t.val % 8, 0] ∧ win0_1.index t = ![t.val / 8, 0, 0] ∧ win0_2.index t = ![t.val / 8, 0, 0]
      ∧ win0_3.index t = ![0, 0] ∧ win0_4.index t = ![0, 0] ∧ win0_5.index t = ![0, 0]
      ∧ win0_6.index t = ![t.val / 8, t.val % 8, 0] ∧ win0_7.index t = ![t.val / 8, t.val % 8, 0, 0] ∧ win0_8.index t = ![t.val / 8, t.val % 8, 0]
      ∧ win0_9.index t = ![t.val / 8, t.val % 8, 0] ∧ win0_10.index t = ![t.val / 8, t.val % 8, 0] ∧ win0_11.index t = ![t.val / 8, t.val % 8, 0]
      ∧ win0_12.index t = ![t.val / 8, t.val % 8, 0] ∧ win0_13.index t = ![t.val / 8, t.val % 8, 0] :=
  (by decide +kernel : ∀ t : Fin grid0.N, _)

/-- The batch element of a point. -/
def pb (t : Fin cfg0.N) : Fin 2 := ⟨t.val / 8, by have := lt_of_lt_of_eq t.isLt N_0; omega⟩
/-- Row `r` of a point's block, as a token. -/
def pt (t : Fin cfg0.N) (r : Fin 1024) : Fin 8192 := ⟨t.val % 8 * 1024 + r.val, by omega⟩

theorem b0 (c : Dev nD) (t : Fin cfg0.N) (r k : Fin 1024) :
    iblk m c 0 t (ix3 0 r k) = m ((c : Thread nD τ).loc main_arg0) (ix3 (pb t) (pt t r) k) := by
  blk_point [iblk, V, idx t]
  all_goals rfl
theorem b1 (c : Dev nD) (t : Fin cfg0.N) (k : Fin 1024) :
    iblk m c 1 t (ix3 0 0 k) = m ((c : Thread nD τ).loc main_arg1) (ix3 (pb t) 0 k) := by
  blk_point [iblk, V, idx t]
  all_goals rfl
theorem b2 (c : Dev nD) (t : Fin cfg0.N) (k : Fin 1024) :
    iblk m c 2 t (ix3 0 0 k) = m ((c : Thread nD τ).loc main_arg2) (ix3 (pb t) 0 k) := by
  blk_point [iblk, V, idx t]
  all_goals rfl
theorem v4 (c : Dev nD) (k : Fin 1024) : V m c main_v4 (ix2 0 k) = m ((c : Thread nD τ).loc main_arg3) (ix2 0 k) := by
  unfold V
  after_results
  pointwise []
theorem v1 (c : Dev nD) (k : Fin 1024) (n : Fin 4096) : V m c main_v1 (ix2 k n) = m ((c : Thread nD τ).loc main_arg4) (ix3 0 k n) := by
  unfold V
  after_results
  pointwise []
theorem v2 (c : Dev nD) (i d : Fin 2) (e : Fin 512) : V m c main_v2 (ix2 i ⟨d.val * 512 + e.val, by omega⟩) = m ((c : Thread nD τ).loc main_arg5) (ix3 i d e) := by
  unfold V
  after_results
  pointwise []
theorem b3 (c : Dev nD) (t : Fin cfg0.N) (k : Fin 1024) : iblk m c 3 t (ix2 0 k) = V m c main_v4 (ix2 0 k) := by
  blk_point [iblk, idx t]
theorem b4 (c : Dev nD) (t : Fin cfg0.N) (k : Fin 1024) (n : Fin 4096) : iblk m c 4 t (ix2 k n) = V m c main_v1 (ix2 k n) := by
  blk_point [iblk, idx t]
theorem b5 (c : Dev nD) (t : Fin cfg0.N) (i : Fin 2) (k : Fin 1024) : iblk m c 5 t (ix2 i k) = V m c main_v2 (ix2 i k) := by
  blk_point [iblk, idx t]

/-- The hidden state of a point's block. -/
theorem hidden (c : Dev nD) (t : Fin cfg0.N) (r k : Fin 1024) :
    k0_pay24 (iblk m c 0 t) (iblk m c 1 t) (iblk m c 2 t) (iblk m c 3 t) (iblk m c 4 t) (iblk m c 5 t) (ix2 r k)
      = normed (m ((c : Thread nD τ).loc main_arg0)) (m ((c : Thread nD τ).loc main_arg1)) (m ((c : Thread nD τ).loc main_arg2))
          (m ((c : Thread nD τ).loc main_arg3)) (pb t) (pt t r) k := by
  unfold k0_pay24
  pointwise [k0_pay4]
  simp only [b0 m c t, b1 m c t, b2 m c t, b3 m c t, v4 m c, normed]

/-- The hidden state's product with a column of the weights. -/
theorem product (c : Dev nD) (t : Fin cfg0.N) (r : Fin 1024) (n : Fin 4096) :
    (∑ x, k0_pay24 (iblk m c 0 t) (iblk m c 1 t) (iblk m c 2 t) (iblk m c 3 t) (iblk m c 4 t) (iblk m c 5 t) (ix2 r x) * iblk m c 4 t (ix2 x n))
      = proj (m ((c : Thread nD τ).loc main_arg0)) (m ((c : Thread nD τ).loc main_arg1)) (m ((c : Thread nD τ).loc main_arg2))
          (m ((c : Thread nD τ).loc main_arg3)) (m ((c : Thread nD τ).loc main_arg4)) (pb t) (pt t r) n :=
  Finset.sum_congr rfl fun x _ => by rw [hidden m c t r x, b4 m c t, v1 m c]

/-- The lower bound's row, as the version computes it in each point. -/
theorem bound (c : Dev nD) (t : Fin cfg0.N) (d : Fin 2) (e : Fin 512) :
    k0_pay25 (iblk m c 0 t) (iblk m c 1 t) (iblk m c 2 t) (iblk m c 3 t) (iblk m c 4 t) (iblk m c 5 t) (ix2 0 ⟨d.val * 512 + e.val, by omega⟩)
      = lower (m ((c : Thread nD τ).loc main_arg5)) d e := by
  unfold k0_pay25
  pointwise [k0_pay5]
  simp only [b5 m c t, v2 m c, lower, minusInf]

/-- The queries, scaled. -/
theorem out6 (c : Dev nD) (t : Fin cfg0.N) (r : Fin 1024) (e : Fin 512) :
    out0_6 (iblk m c 0 t) (iblk m c 1 t) (iblk m c 2 t) (iblk m c 3 t) (iblk m c 4 t) (iblk m c 5 t) (ix3 0 r e) = (proj (m ((c : Thread nD τ).loc main_arg0)) (m ((c : Thread nD τ).loc main_arg1)) (m ((c : Thread nD τ).loc main_arg2))
          (m ((c : Thread nD τ).loc main_arg3)) (m ((c : Thread nD τ).loc main_arg4)) (pb t) (pt t r) (col 0 e)) * Ideal.ofBits FTy.f32 1040187392#32 := by
  have hp := product m c t r (col 0 e)
  unfold out0_6 r0_5
  rw [View.canon_cons_unit_lit _ _ _ (by intro a; fin_cases a <;> rfl)]
  generalize k0_pay24 (F := Ideal) _ _ _ _ _ _ = H at hp ⊢
  generalize iblk m c 4 t = W at hp ⊢
  pointwise [k0_pay6]
  have hc : ∀ h, (⟨e.val, h⟩ : Fin 4096) = col 0 e := fun _ => Fin.ext (by simp [col])
  simp only [hc, hp]

/-- The values. -/
theorem out8 (c : Dev nD) (t : Fin cfg0.N) (r : Fin 1024) (e : Fin 512) :
    out0_8 (iblk m c 0 t) (iblk m c 1 t) (iblk m c 2 t) (iblk m c 3 t) (iblk m c 4 t) (iblk m c 5 t) (ix3 0 r e) = proj (m ((c : Thread nD τ).loc main_arg0)) (m ((c : Thread nD τ).loc main_arg1)) (m ((c : Thread nD τ).loc main_arg2))
          (m ((c : Thread nD τ).loc main_arg3)) (m ((c : Thread nD τ).loc main_arg4)) (pb t) (pt t r) (col 2 e) := by
  have hp := product m c t r (col 2 e)
  unfold out0_8 r0_5
  rw [View.canon_cons_unit_lit _ _ _ (by intro a; fin_cases a <;> rfl)]
  generalize k0_pay24 (F := Ideal) _ _ _ _ _ _ = H at hp ⊢
  generalize iblk m c 4 t = W at hp ⊢
  pointwise [k0_pay16]
  have hc : ∀ h, (⟨1024 + e.val, h⟩ : Fin 4096) = col 2 e := fun _ => Fin.ext (by simp [col])
  simp only [hc, hp]

/-- The recurrence's queries. -/
theorem out9 (c : Dev nD) (t : Fin cfg0.N) (r : Fin 1024) (e : Fin 512) :
    out0_9 (iblk m c 0 t) (iblk m c 1 t) (iblk m c 2 t) (iblk m c 3 t) (iblk m c 4 t) (iblk m c 5 t) (ix3 0 r e) = tsilu (proj (m ((c : Thread nD τ).loc main_arg0)) (m ((c : Thread nD τ).loc main_arg1)) (m ((c : Thread nD τ).loc main_arg2))
          (m ((c : Thread nD τ).loc main_arg3)) (m ((c : Thread nD τ).loc main_arg4)) (pb t) (pt t r) (col 3 e)) := by
  have hp := product m c t r (col 3 e)
  unfold out0_9 r0_5
  rw [View.canon_cons_unit_lit _ _ _ (by intro a; fin_cases a <;> rfl)]
  generalize k0_pay24 (F := Ideal) _ _ _ _ _ _ = H at hp ⊢
  generalize iblk m c 4 t = W at hp ⊢
  pointwise [k0_pay19, k0_pay17, k0_pay18]
  have hc : ∀ h, (⟨1536 + e.val, h⟩ : Fin 4096) = col 3 e := fun _ => Fin.ext (by simp [col])
  simp only [hc, hp, tsilu, half]

/-- The forward forget gate. -/
theorem out10 (c : Dev nD) (t : Fin cfg0.N) (r : Fin 1024) (e : Fin 512) :
    out0_10 (iblk m c 0 t) (iblk m c 1 t) (iblk m c 2 t) (iblk m c 3 t) (iblk m c 4 t) (iblk m c 5 t) (ix3 0 r e) = logForget (lower (m ((c : Thread nD τ).loc main_arg5)) 0 e) (proj (m ((c : Thread nD τ).loc main_arg0)) (m ((c : Thread nD τ).loc main_arg1)) (m ((c : Thread nD τ).loc main_arg2))
          (m ((c : Thread nD τ).loc main_arg3)) (m ((c : Thread nD τ).loc main_arg4)) (pb t) (pt t r) (col 4 e)) := by
  have hp := product m c t r (col 4 e)
  have hb := bound m c t
  unfold out0_10 r0_5
  rw [View.canon_cons_unit_lit _ _ _ (by intro a; fin_cases a <;> rfl)]
  generalize k0_pay24 (F := Ideal) _ _ _ _ _ _ = H at hp ⊢
  generalize k0_pay25 (F := Ideal) _ _ _ _ _ _ = B at hb ⊢
  generalize iblk m c 4 t = W at hp ⊢
  pointwise [k0_pay21]
  have hc : ∀ h, (⟨2048 + e.val, h⟩ : Fin 4096) = col 4 e := fun _ => Fin.ext (by simp [col])
  have hl : ∀ h, B (ix2 0 ⟨e.val, h⟩) = lower (m ((c : Thread nD τ).loc main_arg5)) 0 e := fun _ => by
    rw [← hb 0 e]
    exact congrArg (fun z => B (ix2 0 z)) (Fin.ext (by simp))
  simp only [hc, hp, hl, logForget, tsig, half]

/-- The backward forget gate. -/
theorem out11 (c : Dev nD) (t : Fin cfg0.N) (r : Fin 1024) (e : Fin 512) :
    out0_11 (iblk m c 0 t) (iblk m c 1 t) (iblk m c 2 t) (iblk m c 3 t) (iblk m c 4 t) (iblk m c 5 t) (ix3 0 r e) = logForget (lower (m ((c : Thread nD τ).loc main_arg5)) 1 e) (proj (m ((c : Thread nD τ).loc main_arg0)) (m ((c : Thread nD τ).loc main_arg1)) (m ((c : Thread nD τ).loc main_arg2))
          (m ((c : Thread nD τ).loc main_arg3)) (m ((c : Thread nD τ).loc main_arg4)) (pb t) (pt t r) (col 5 e)) := by
  have hp := product m c t r (col 5 e)
  have hb := bound m c t
  unfold out0_11 r0_5
  rw [View.canon_cons_unit_lit _ _ _ (by intro a; fin_cases a <;> rfl)]
  generalize k0_pay24 (F := Ideal) _ _ _ _ _ _ = H at hp ⊢
  generalize k0_pay25 (F := Ideal) _ _ _ _ _ _ = B at hb ⊢
  generalize iblk m c 4 t = W at hp ⊢
  pointwise [k0_pay1, k0_pay20, k0_pay22, k0_pay23]
  have hc : ∀ h, (⟨2560 + e.val, h⟩ : Fin 4096) = col 5 e := fun _ => Fin.ext (by simp [col])
  have hl : ∀ h, B (ix2 0 ⟨512 + e.val, h⟩) = lower (m ((c : Thread nD τ).loc main_arg5)) 1 e := fun _ => by
    rw [← hb 1 e]
    exact congrArg (fun z => B (ix2 0 z)) (Fin.ext (by simp))
  simp only [hc, hp, hl, logForget, tsig, half]

/-- The recurrence's input. -/
theorem out12 (c : Dev nD) (t : Fin cfg0.N) (r : Fin 1024) (e : Fin 512) :
    out0_12 (iblk m c 0 t) (iblk m c 1 t) (iblk m c 2 t) (iblk m c 3 t) (iblk m c 4 t) (iblk m c 5 t) (ix3 0 r e) = proj (m ((c : Thread nD τ).loc main_arg0)) (m ((c : Thread nD τ).loc main_arg1)) (m ((c : Thread nD τ).loc main_arg2))
          (m ((c : Thread nD τ).loc main_arg3)) (m ((c : Thread nD τ).loc main_arg4)) (pb t) (pt t r) (col 6 e) := by
  have hp := product m c t r (col 6 e)
  unfold out0_12 r0_5
  rw [View.canon_cons_unit_lit _ _ _ (by intro a; fin_cases a <;> rfl)]
  generalize k0_pay24 (F := Ideal) _ _ _ _ _ _ = H at hp ⊢
  generalize iblk m c 4 t = W at hp ⊢
  pointwise [k0_pay2]
  have hc : ∀ h, (⟨3072 + e.val, h⟩ : Fin 4096) = col 6 e := fun _ => Fin.ext (by simp [col])
  simp only [hc, hp]

/-- The recurrence's gate. -/
theorem out13 (c : Dev nD) (t : Fin cfg0.N) (r : Fin 1024) (e : Fin 512) :
    out0_13 (iblk m c 0 t) (iblk m c 1 t) (iblk m c 2 t) (iblk m c 3 t) (iblk m c 4 t) (iblk m c 5 t) (ix3 0 r e) = tsilu (proj (m ((c : Thread nD τ).loc main_arg0)) (m ((c : Thread nD τ).loc main_arg1)) (m ((c : Thread nD τ).loc main_arg2))
          (m ((c : Thread nD τ).loc main_arg3)) (m ((c : Thread nD τ).loc main_arg4)) (pb t) (pt t r) (col 7 e)) := by
  have hp := product m c t r (col 7 e)
  unfold out0_13 r0_5
  rw [View.canon_cons_unit_lit _ _ _ (by intro a; fin_cases a <;> rfl)]
  generalize k0_pay24 (F := Ideal) _ _ _ _ _ _ = H at hp ⊢
  generalize iblk m c 4 t = W at hp ⊢
  pointwise [k0_pay3]
  have hc : ∀ h, (⟨3584 + e.val, h⟩ : Fin 4096) = col 7 e := fun _ => Fin.ext (by simp [col])
  simp only [hc, hp, tsilu, half]
/-- The keys, transposed in blocks of 128 tokens. -/
theorem out7 (c : Dev nD) (t : Fin cfg0.N) (j : Fin 8) (e : Fin 512) (l : Fin 128) :
    out0_7 (iblk m c 0 t) (iblk m c 1 t) (iblk m c 2 t) (iblk m c 3 t) (iblk m c 4 t) (iblk m c 5 t) (ix4 0 j e l) = proj (m ((c : Thread nD τ).loc main_arg0)) (m ((c : Thread nD τ).loc main_arg1)) (m ((c : Thread nD τ).loc main_arg2))
          (m ((c : Thread nD τ).loc main_arg3)) (m ((c : Thread nD τ).loc main_arg4)) (pb t) (pt t ⟨j.val * 128 + l.val, by omega⟩) (col 1 e) := by
  have hp := product m c t ⟨j.val * 128 + l.val, by omega⟩ (col 1 e)
  have hc : (⟨512 + e.val, by omega⟩ : Fin 4096) = col 1 e := Fin.ext (by simp [col])
  unfold out0_7 k0_pay26
  generalize k0_pay24 (F := Ideal) _ _ _ _ _ _ = H at hp ⊢
  generalize iblk m c 4 t = W at hp ⊢
  rw [← hp]
  clear hp
  canon_tiles x h
  all_goals
    obtain ⟨d, w, rfl⟩ : ∃ d w, x = ix4 0 0 d w := ⟨x 2, x 3, by
      rw [← ix4_eta x]
      exact congrArg₂ (fun a b => ix4 a b (x 2) (x 3)) (Fin.ext (Nat.lt_one_iff.mp x0_lt)) (Fin.ext (Nat.lt_one_iff.mp x1_lt))⟩
    simp only [ix4_0, ix4_1, ix4_2, ix4_3] at h1 h2 h3 x2_lt x3_lt
    obtain rfl : e = d := Fin.ext (by simpa using h2)
    obtain rfl : l = w := Fin.ext (by simpa using h3)
    obtain ⟨j, hj⟩ := j
  all_goals
    pointwise [k0_pay8, k0_pay9, k0_pay10, k0_pay11, k0_pay12, k0_pay13, k0_pay14, k0_pay15, k0_pay7]
    exact Finset.sum_congr rfl fun x _ => congrArg₂ (· * ·)
      (congrArg (fun z => H (ix2 z x)) (Fin.ext (by simp at h1 ⊢; omega))) (congrArg (fun z => W (ix2 x z)) hc)
end Cert.Proj
-- ==== Proof.ProjArray.lean ====
/- THE PROJECTIONS' ARRAYS: after the region each of the eight result arrays, index by index, in terms of the arguments. -/
module

public import proofs.«01_k».proof.Proof.Proj

@[expose] public section

set_option maxRecDepth 16384

noncomputable section

namespace Cert.Proj

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- Column `n` of the projection of the arguments. -/
abbrev P (c : Dev nD) (b : Fin 2) (T : Fin 8192) (n : Fin 4096) : EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) b T n
/-- The lower bounds of the arguments. -/
abbrev Lo (c : Dev nD) (d : Fin 2) (e : Fin 512) : EReal := lower (m ((c : Thread nD τ).loc main_arg5)) d e

/-- The queries. -/
theorem final6 (c : Dev nD) : (dats m 0 c).arrAt 6 cfg0.N = fun y => P m c (y 0) (y 1) (col 0 (y 2)) * Ideal.ofBits FTy.f32 1040187392#32 := by
  refine (dats m 0 c).arrAt_eq_of_covers 6 _ (by decide +kernel) fun t hf y => ?_
  blk_simp
  rw [after0_6]
  have h0 : (y 0).val < 1 := (y 0).isLt
  have e : (y : S1x1024x512.Idx) = ix3 0 (y 1) (y 2) := by
    refine (ix3_eta (n0 := 1) (n1 := 1024) (n2 := 512) y).symm.trans ?_
    exact congrArg (fun a => ix3 a (y 1) (y 2)) (Fin.ext (by simp))
  refine (congrArg (out0_6 (iblk m c 0 t) (iblk m c 1 t) (iblk m c 2 t) (iblk m c 3 t) (iblk m c 4 t) (iblk m c 5 t)) e).trans ((out6 m c t (y 1) (y 2)).trans ?_)
  have e0 : (win0_6.blk t).view.emb y 0 = pb t := by apply Fin.ext; blk_simp [idx t]; simp only [pb]
  have e1 : (win0_6.blk t).view.emb y 1 = pt t (y 1) := by apply Fin.ext; blk_simp [idx t]; simp only [pt]
  have e2 : (win0_6.blk t).view.emb y 2 = y 2 := by apply Fin.ext; blk_simp [idx t]
  rw [e0, e1, e2]

/-- The values. -/
theorem final8 (c : Dev nD) : (dats m 0 c).arrAt 8 cfg0.N = fun y => P m c (y 0) (y 1) (col 2 (y 2)) := by
  refine (dats m 0 c).arrAt_eq_of_covers 8 _ (by decide +kernel) fun t hf y => ?_
  blk_simp
  rw [after0_8]
  have h0 : (y 0).val < 1 := (y 0).isLt
  have e : (y : S1x1024x512.Idx) = ix3 0 (y 1) (y 2) := by
    refine (ix3_eta (n0 := 1) (n1 := 1024) (n2 := 512) y).symm.trans ?_
    exact congrArg (fun a => ix3 a (y 1) (y 2)) (Fin.ext (by simp))
  refine (congrArg (out0_8 (iblk m c 0 t) (iblk m c 1 t) (iblk m c 2 t) (iblk m c 3 t) (iblk m c 4 t) (iblk m c 5 t)) e).trans ((out8 m c t (y 1) (y 2)).trans ?_)
  have e0 : (win0_8.blk t).view.emb y 0 = pb t := by apply Fin.ext; blk_simp [idx t]; simp only [pb]
  have e1 : (win0_8.blk t).view.emb y 1 = pt t (y 1) := by apply Fin.ext; blk_simp [idx t]; simp only [pt]
  have e2 : (win0_8.blk t).view.emb y 2 = y 2 := by apply Fin.ext; blk_simp [idx t]
  rw [e0, e1, e2]

/-- The recurrence's queries. -/
theorem final9 (c : Dev nD) : (dats m 0 c).arrAt 9 cfg0.N = fun y => tsilu (P m c (y 0) (y 1) (col 3 (y 2))) := by
  refine (dats m 0 c).arrAt_eq_of_covers 9 _ (by decide +kernel) fun t hf y => ?_
  blk_simp
  rw [after0_9]
  have h0 : (y 0).val < 1 := (y 0).isLt
  have e : (y : S1x1024x512.Idx) = ix3 0 (y 1) (y 2) := by
    refine (ix3_eta (n0 := 1) (n1 := 1024) (n2 := 512) y).symm.trans ?_
    exact congrArg (fun a => ix3 a (y 1) (y 2)) (Fin.ext (by simp))
  refine (congrArg (out0_9 (iblk m c 0 t) (iblk m c 1 t) (iblk m c 2 t) (iblk m c 3 t) (iblk m c 4 t) (iblk m c 5 t)) e).trans ((out9 m c t (y 1) (y 2)).trans ?_)
  have e0 : (win0_9.blk t).view.emb y 0 = pb t := by apply Fin.ext; blk_simp [idx t]; simp only [pb]
  have e1 : (win0_9.blk t).view.emb y 1 = pt t (y 1) := by apply Fin.ext; blk_simp [idx t]; simp only [pt]
  have e2 : (win0_9.blk t).view.emb y 2 = y 2 := by apply Fin.ext; blk_simp [idx t]
  rw [e0, e1, e2]

/-- The forward forget gates. -/
theorem final10 (c : Dev nD) : (dats m 0 c).arrAt 10 cfg0.N = fun y => logForget (Lo m c 0 (y 2)) (P m c (y 0) (y 1) (col 4 (y 2))) := by
  refine (dats m 0 c).arrAt_eq_of_covers 10 _ (by decide +kernel) fun t hf y => ?_
  blk_simp
  rw [after0_10]
  have h0 : (y 0).val < 1 := (y 0).isLt
  have e : (y : S1x1024x512.Idx) = ix3 0 (y 1) (y 2) := by
    refine (ix3_eta (n0 := 1) (n1 := 1024) (n2 := 512) y).symm.trans ?_
    exact congrArg (fun a => ix3 a (y 1) (y 2)) (Fin.ext (by simp))
  refine (congrArg (out0_10 (iblk m c 0 t) (iblk m c 1 t) (iblk m c 2 t) (iblk m c 3 t) (iblk m c 4 t) (iblk m c 5 t)) e).trans ((out10 m c t (y 1) (y 2)).trans ?_)
  have e0 : (win0_10.blk t).view.emb y 0 = pb t := by apply Fin.ext; blk_simp [idx t]; simp only [pb]
  have e1 : (win0_10.blk t).view.emb y 1 = pt t (y 1) := by apply Fin.ext; blk_simp [idx t]; simp only [pt]
  have e2 : (win0_10.blk t).view.emb y 2 = y 2 := by apply Fin.ext; blk_simp [idx t]
  rw [e0, e1, e2]

/-- The backward forget gates. -/
theorem final11 (c : Dev nD) : (dats m 0 c).arrAt 11 cfg0.N = fun y => logForget (Lo m c 1 (y 2)) (P m c (y 0) (y 1) (col 5 (y 2))) := by
  refine (dats m 0 c).arrAt_eq_of_covers 11 _ (by decide +kernel) fun t hf y => ?_
  blk_simp
  rw [after0_11]
  have h0 : (y 0).val < 1 := (y 0).isLt
  have e : (y : S1x1024x512.Idx) = ix3 0 (y 1) (y 2) := by
    refine (ix3_eta (n0 := 1) (n1 := 1024) (n2 := 512) y).symm.trans ?_
    exact congrArg (fun a => ix3 a (y 1) (y 2)) (Fin.ext (by simp))
  refine (congrArg (out0_11 (iblk m c 0 t) (iblk m c 1 t) (iblk m c 2 t) (iblk m c 3 t) (iblk m c 4 t) (iblk m c 5 t)) e).trans ((out11 m c t (y 1) (y 2)).trans ?_)
  have e0 : (win0_11.blk t).view.emb y 0 = pb t := by apply Fin.ext; blk_simp [idx t]; simp only [pb]
  have e1 : (win0_11.blk t).view.emb y 1 = pt t (y 1) := by apply Fin.ext; blk_simp [idx t]; simp only [pt]
  have e2 : (win0_11.blk t).view.emb y 2 = y 2 := by apply Fin.ext; blk_simp [idx t]
  rw [e0, e1, e2]

/-- The recurrence's inputs. -/
theorem final12 (c : Dev nD) : (dats m 0 c).arrAt 12 cfg0.N = fun y => P m c (y 0) (y 1) (col 6 (y 2)) := by
  refine (dats m 0 c).arrAt_eq_of_covers 12 _ (by decide +kernel) fun t hf y => ?_
  blk_simp
  rw [after0_12]
  have h0 : (y 0).val < 1 := (y 0).isLt
  have e : (y : S1x1024x512.Idx) = ix3 0 (y 1) (y 2) := by
    refine (ix3_eta (n0 := 1) (n1 := 1024) (n2 := 512) y).symm.trans ?_
    exact congrArg (fun a => ix3 a (y 1) (y 2)) (Fin.ext (by simp))
  refine (congrArg (out0_12 (iblk m c 0 t) (iblk m c 1 t) (iblk m c 2 t) (iblk m c 3 t) (iblk m c 4 t) (iblk m c 5 t)) e).trans ((out12 m c t (y 1) (y 2)).trans ?_)
  have e0 : (win0_12.blk t).view.emb y 0 = pb t := by apply Fin.ext; blk_simp [idx t]; simp only [pb]
  have e1 : (win0_12.blk t).view.emb y 1 = pt t (y 1) := by apply Fin.ext; blk_simp [idx t]; simp only [pt]
  have e2 : (win0_12.blk t).view.emb y 2 = y 2 := by apply Fin.ext; blk_simp [idx t]
  rw [e0, e1, e2]

/-- The recurrence's gates. -/
theorem final13 (c : Dev nD) : (dats m 0 c).arrAt 13 cfg0.N = fun y => tsilu (P m c (y 0) (y 1) (col 7 (y 2))) := by
  refine (dats m 0 c).arrAt_eq_of_covers 13 _ (by decide +kernel) fun t hf y => ?_
  blk_simp
  rw [after0_13]
  have h0 : (y 0).val < 1 := (y 0).isLt
  have e : (y : S1x1024x512.Idx) = ix3 0 (y 1) (y 2) := by
    refine (ix3_eta (n0 := 1) (n1 := 1024) (n2 := 512) y).symm.trans ?_
    exact congrArg (fun a => ix3 a (y 1) (y 2)) (Fin.ext (by simp))
  refine (congrArg (out0_13 (iblk m c 0 t) (iblk m c 1 t) (iblk m c 2 t) (iblk m c 3 t) (iblk m c 4 t) (iblk m c 5 t)) e).trans ((out13 m c t (y 1) (y 2)).trans ?_)
  have e0 : (win0_13.blk t).view.emb y 0 = pb t := by apply Fin.ext; blk_simp [idx t]; simp only [pb]
  have e1 : (win0_13.blk t).view.emb y 1 = pt t (y 1) := by apply Fin.ext; blk_simp [idx t]; simp only [pt]
  have e2 : (win0_13.blk t).view.emb y 2 = y 2 := by apply Fin.ext; blk_simp [idx t]
  rw [e0, e1, e2]

/-- Token `l` of block `j` of 128. -/
def tok (j : Fin 64) (l : Fin 128) : Fin 8192 := ⟨j.val * 128 + l.val, by omega⟩
/-- Block `j` of a point's blocks of 128 tokens. -/
def pj (t : Fin cfg0.N) (j : Fin 8) : Fin 64 := ⟨t.val % 8 * 8 + j.val, by omega⟩

/-- The keys, transposed in blocks of 128 tokens. -/
theorem final7 (c : Dev nD) : (dats m 0 c).arrAt 7 cfg0.N
    = fun y => P m c (y 0) (tok (y 1) (y 3)) (col 1 (y 2)) := by
  refine (dats m 0 c).arrAt_eq_of_covers 7 _ (by decide +kernel) fun t hf y => ?_
  blk_simp
  rw [after0_7]
  have h0 : (y 0).val < 1 := (y 0).isLt
  have e : (y : S1x8x512x128.Idx) = ix4 0 (y 1) (y 2) (y 3) := by
    refine (ix4_eta (n0 := 1) (n1 := 8) (n2 := 512) (n3 := 128) y).symm.trans ?_
    exact congrArg (fun a => ix4 a (y 1) (y 2) (y 3)) (Fin.ext (by simp))
  refine (congrArg (out0_7 (iblk m c 0 t) (iblk m c 1 t) (iblk m c 2 t) (iblk m c 3 t) (iblk m c 4 t) (iblk m c 5 t)) e).trans ((out7 m c t (y 1) (y 2) (y 3)).trans ?_)
  have e0 : (win0_7.blk t).view.emb y 0 = pb t := by apply Fin.ext; blk_simp [idx t]; simp only [pb]
  have e1 : (win0_7.blk t).view.emb y 1 = pj t (y 1) := by apply Fin.ext; blk_simp [idx t]; simp only [pj]
  have e2 : (win0_7.blk t).view.emb y 2 = y 2 := by apply Fin.ext; blk_simp [idx t]
  have e3 : (win0_7.blk t).view.emb y 3 = y 3 := by apply Fin.ext; blk_simp [idx t]
  rw [e0, e1, e2, e3]
  exact congrArg (fun T => P m c (pb t) T (col 1 (y 2))) (Fin.ext (by simp only [pt, tok, pj]; omega))

end Cert.Proj
-- ==== Proof.ProjRef.lean ====
/- THE REFERENCE'S PROJECTIONS, index by index. -/
module

public import proofs.«01_k».proof.Proof.ProjArray
public import proofs.«01_k».proof.Proof.Gen.Reference2Ideal.Read

@[expose] public section

set_option maxRecDepth 16384

noncomputable section

namespace Cert.ProjRef

open Cert.Reference2Ideal Cert.Reference2Ideal.Read
open Idealize.ShloMosaic Idealize.ShloMosaic.TcCoe Idealize.SL.Sem
open Cert.Proj (normed proj lower col minusInf tok)

variable (X : Vec Ideal S2x8192x1024 .f32) (SC SH : Vec Ideal S2x1x1024 .f32) (NW : Vec Ideal S1x1024 .f32)
  (W : Vec Ideal S1x1024x4096 .f32) (L : Vec Ideal S2x2x512 .f32)

theorem zero : Ideal.ofBits FTy.f32 0x00000000#32 = 0 := by simp [Ideal.ofBits, Ideal.ieee]

/-- The logistic function and silu, as the reference spells them. -/
def rsig (x : EReal) : EReal := Ideal.div 1 (1 + Ideal.exp (-x))
def rsilu (x : EReal) : EReal := x * rsig x
def rforget (l x : EReal) : EReal := Ideal.log (l + (1 - l) * rsig x)

/-- The hidden state. -/
theorem v19 (b : Fin 2) (T : Fin 8192) (k : Fin 1024) : val_main_v19 (F := Ideal) X SC SH NW (ix3 b T k) = normed X SC SH NW b T k := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- Its projection. -/
theorem v21 (b : Fin 2) (T : Fin 8192) (n : Fin 4096) : val_main_v21 (F := Ideal) X SC SH NW W (ix3 b T n) = proj X SC SH NW W b T n := by
  have h := v19 X SC SH NW b T
  unfold val_main_v21
  generalize val_main_v19 (F := Ideal) X SC SH NW = H at h ⊢
  pointwise [val_main_v20]
  simp only [h, proj]

/-- The softmax over the layers. -/
theorem v40 (d : Fin 2) (e : Fin 512) : val_main_v40 (F := Ideal) L (ix3 0 d e) = lower L d e := by
  have hm : ∀ (i d : Fin 2) (e : Fin 512), val_main_v34 (F := Ideal) L (ix3 i d e) = Finset.univ.fold max ⊥ (fun x => L (ix3 x d e)) := by
    intro i d e
    pointwise [val_main_v34, val_main_v33, val_main_v32, val_main_v31, val_main_v30, val_main_cst_3, val_main_cst_4]
    simp only [minusInf]
    exact max_eq_right bot_le
  unfold val_main_v40 val_main_v39 val_main_v38 val_main_v37 val_main_v36 val_main_v35
  generalize val_main_v34 (F := Ideal) L = M at hm ⊢
  pointwise [val_main_cst_5]
  simp only [hm, lower, zero, zero_add]

/-- The running sum over the layers begins with the first layer's entry. -/
theorem v41 (d : Fin 2) (e : Fin 512) : val_main_v41 (F := Ideal) L (ix3 0 d e) = lower L d e := by
  have h := v40 L d e
  unfold val_main_v41
  generalize val_main_v40 (F := Ideal) L = S at h ⊢
  simp only [Host.reduceWindowAdd, Ideal.hostReduceWindowAdd_def]
  unfold Ideal.hostReduceWindowAdd Host.reduceWindow
  have hv : val_main_call0_call0_v0 (F := Ideal) (Shape.Idx.first Gen.h_S_) = 0 := zero
  simp only [hv]
  have hl : List.finRange (⟨3, ![2, 1, 1]⟩ : Shape).numel = [⟨0, by decide⟩, ⟨1, by decide⟩] := by decide
  rw [← h]
  rw [hl]
  simp only [List.foldl]
  rw [dif_neg, dif_pos]
  · rw [zero_add, zero_add]
    refine congrArg S (funext fun a => Fin.ext ?_)
    fin_cases a
    · exact (by decide : 0 * 1 + ((⟨3, ![2, 1, 1]⟩ : Shape).rowMajor.symm ⟨1, by decide⟩ 0).val - 1 = 0)
    · have : ((⟨3, ![2, 1, 1]⟩ : Shape).rowMajor.symm ⟨1, by decide⟩ 1).val = 0 := by decide
      show d.val * 1 + ((⟨3, ![2, 1, 1]⟩ : Shape).rowMajor.symm ⟨1, by decide⟩ 1).val - 0 = d.val
      omega
    · have : ((⟨3, ![2, 1, 1]⟩ : Shape).rowMajor.symm ⟨1, by decide⟩ 2).val = 0 := by decide
      show e.val * 1 + ((⟨3, ![2, 1, 1]⟩ : Shape).rowMajor.symm ⟨1, by decide⟩ 2).val - 0 = e.val
      omega
  · intro a
    have h1 : ((⟨3, ![2, 1, 1]⟩ : Shape).rowMajor.symm ⟨1, by decide⟩ 1).val = 0 := by decide
    have h2 : ((⟨3, ![2, 1, 1]⟩ : Shape).rowMajor.symm ⟨1, by decide⟩ 2).val = 0 := by decide
    fin_cases a
    · exact (by decide : 1 ≤ 0 * 1 + ((⟨3, ![2, 1, 1]⟩ : Shape).rowMajor.symm ⟨1, by decide⟩ 0).val ∧ 0 * 1 + ((⟨3, ![2, 1, 1]⟩ : Shape).rowMajor.symm ⟨1, by decide⟩ 0).val - 1 < 2)
    · show 0 ≤ d.val * 1 + ((⟨3, ![2, 1, 1]⟩ : Shape).rowMajor.symm ⟨1, by decide⟩ 1).val ∧ d.val * 1 + ((⟨3, ![2, 1, 1]⟩ : Shape).rowMajor.symm ⟨1, by decide⟩ 1).val - 0 < 2
      omega
    · show 0 ≤ e.val * 1 + ((⟨3, ![2, 1, 1]⟩ : Shape).rowMajor.symm ⟨1, by decide⟩ 2).val ∧ e.val * 1 + ((⟨3, ![2, 1, 1]⟩ : Shape).rowMajor.symm ⟨1, by decide⟩ 2).val - 0 < 512
      omega
  · intro h
    exact absurd (h 0).1 (by exact (by decide : ¬ 1 ≤ 0 * 1 + ((⟨3, ![2, 1, 1]⟩ : Shape).rowMajor.symm ⟨0, by decide⟩ 0).val))

/-- The lower bounds. -/
theorem v43 (d : Fin 2) (e : Fin 512) : val_main_v43 (F := Ideal) L (ix2 d e) = lower L d e := by
  have h := v41 L d e
  unfold val_main_v43 val_main_v42
  generalize val_main_v41 (F := Ideal) L = S at h ⊢
  pointwise
  exact h

/-- The queries. -/
theorem v48 (b : Fin 2) (T : Fin 8192) (e : Fin 512) : val_main_v48 (F := Ideal) X SC SH NW W (ix3 b T e) = proj X SC SH NW W b T (col 0 e) * Ideal.ofBits FTy.f32 1040187392#32 := by
  have h := v21 X SC SH NW W b T (col 0 e)
  unfold val_main_v48 val_main_v47 val_main_v22
  generalize val_main_v21 (F := Ideal) X SC SH NW W = H at h ⊢
  have hc : ∀ h, (⟨e.val, h⟩ : Fin 4096) = col 0 e := fun _ => Fin.ext (by simp [col])
  pointwise [val_main_v46, val_main_cst_6]
  simp only [hc, h]

/-- The values. -/
theorem v50 (b : Fin 2) (T : Fin 8192) (e : Fin 512) : val_main_v50 (F := Ideal) X SC SH NW W (ix3 b T e) = proj X SC SH NW W b T (col 2 e) := by
  have h := v21 X SC SH NW W b T (col 2 e)
  unfold val_main_v50 val_main_v24
  generalize val_main_v21 (F := Ideal) X SC SH NW W = H at h ⊢
  have hc : ∀ h, (⟨1024 + e.val, h⟩ : Fin 4096) = col 2 e := fun _ => Fin.ext (by simp [col])
  pointwise []
  simp only [hc, h]

/-- The recurrence's queries. -/
theorem v52 (b : Fin 2) (T : Fin 8192) (e : Fin 512) : val_main_v52 (F := Ideal) X SC SH NW W (ix3 b T e) = rsilu (proj X SC SH NW W b T (col 3 e)) := by
  have h := v21 X SC SH NW W b T (col 3 e)
  unfold val_main_v52 val_main_v51 val_main_call1_v5 val_main_call1_v4 val_main_call1_v3 val_main_call1_v2 val_main_call1_v1 val_main_call1_v0 val_main_v25
  generalize val_main_v21 (F := Ideal) X SC SH NW W = H at h ⊢
  have hc : ∀ h, (⟨1536 + e.val, h⟩ : Fin 4096) = col 3 e := fun _ => Fin.ext (by simp [col])
  pointwise [val_main_call1_cst, val_main_call1_cst_0]
  simp only [hc, h, rsilu, rsig]

/-- The forward forget gates. -/
theorem v69 (b : Fin 2) (T : Fin 8192) (e : Fin 512) : val_main_v69 (F := Ideal) X SC SH NW W L (ix3 b T e) = rforget (lower L 0 e) (proj X SC SH NW W b T (col 4 e)) := by
  have h := v21 X SC SH NW W b T (col 4 e)
  have hb := v43 L 0 e
  unfold val_main_v69 val_main_v68 val_main_v65 val_main_v62 val_main_v60 val_main_v58 val_main_v57 val_main_v26 val_main_v67 val_main_v66 val_main_v64 val_main_v63 val_main_v56 val_main_v54 val_main_v53
  generalize val_main_v21 (F := Ideal) X SC SH NW W = H at h ⊢
  generalize val_main_v43 (F := Ideal) L = B at hb ⊢
  have hc : ∀ h, (⟨2048 + e.val, h⟩ : Fin 4096) = col 4 e := fun _ => Fin.ext (by simp [col])
  pointwise [val_main_v55, val_main_v59, val_main_v61, val_main_cst_7, val_main_cst_8, val_main_cst_9]
  simp only [hc, h, hb, rforget, rsig]

/-- The backward forget gates. -/
theorem v86 (b : Fin 2) (T : Fin 8192) (e : Fin 512) : val_main_v86 (F := Ideal) X SC SH NW W L (ix3 b T e) = rforget (lower L 1 e) (proj X SC SH NW W b T (col 5 e)) := by
  have h := v21 X SC SH NW W b T (col 5 e)
  have hb := v43 L 1 e
  unfold val_main_v86 val_main_v85 val_main_v82 val_main_v79 val_main_v77 val_main_v75 val_main_v74 val_main_v27 val_main_v84 val_main_v83 val_main_v81 val_main_v80 val_main_v73 val_main_v71 val_main_v70
  generalize val_main_v21 (F := Ideal) X SC SH NW W = H at h ⊢
  generalize val_main_v43 (F := Ideal) L = B at hb ⊢
  have hc : ∀ h, (⟨2560 + e.val, h⟩ : Fin 4096) = col 5 e := fun _ => Fin.ext (by simp [col])
  pointwise [val_main_v72, val_main_v76, val_main_v78, val_main_cst_10, val_main_cst_11, val_main_cst_12]
  simp only [hc, h, hb, rforget, rsig]

/-- The recurrence's inputs. -/
theorem v87 (b : Fin 2) (T : Fin 8192) (e : Fin 512) : val_main_v87 (F := Ideal) X SC SH NW W (ix3 b T e) = proj X SC SH NW W b T (col 6 e) := by
  have h := v21 X SC SH NW W b T (col 6 e)
  unfold val_main_v87 val_main_v28
  generalize val_main_v21 (F := Ideal) X SC SH NW W = H at h ⊢
  have hc : ∀ h, (⟨3072 + e.val, h⟩ : Fin 4096) = col 6 e := fun _ => Fin.ext (by simp [col])
  pointwise []
  simp only [hc, h]

/-- The recurrence's gates. -/
theorem v89 (b : Fin 2) (T : Fin 8192) (e : Fin 512) : val_main_v89 (F := Ideal) X SC SH NW W (ix3 b T e) = rsilu (proj X SC SH NW W b T (col 7 e)) := by
  have h := v21 X SC SH NW W b T (col 7 e)
  unfold val_main_v89 val_main_v88 val_main_call2_v5 val_main_call2_v4 val_main_call2_v3 val_main_call2_v2 val_main_call2_v1 val_main_call2_v0 val_main_v29
  generalize val_main_v21 (F := Ideal) X SC SH NW W = H at h ⊢
  have hc : ∀ h, (⟨3584 + e.val, h⟩ : Fin 4096) = col 7 e := fun _ => Fin.ext (by simp [col])
  pointwise [val_main_call2_cst, val_main_call2_cst_0]
  simp only [hc, h, rsilu, rsig]

/-- The keys, transposed in blocks of 128 tokens. -/
theorem v49 (b : Fin 2) (j : Fin 64) (e : Fin 512) (l : Fin 128) : val_main_v49 (F := Ideal) X SC SH NW W (ix4 b j e l) = proj X SC SH NW W b (tok j l) (col 1 e) := by
  have h := v21 X SC SH NW W b (tok j l) (col 1 e)
  unfold val_main_v49 val_main_v45 val_main_v44 val_main_v23
  generalize val_main_v21 (F := Ideal) X SC SH NW W = H at h ⊢
  rw [← h]
  pointwise
  exact congrArg (fun y => H (ix3 b (tok j l) y)) (Fin.ext (by simp [col]))

end Cert.ProjRef
-- ==== Proof.ProjMath.lean ====
/- THE GATES' IDENTITIES AND FINITENESS: the logistic function by the hyperbolic tangent, and that the projections are finite. -/
module

public import proofs.«01_k».proof.Proof.ProjRef
public import proofs.«01_k».proof.Proof.Softmax

@[expose] public section

set_option maxRecDepth 16384

noncomputable section

namespace Cert.Proj

open Idealize.ShloMosaic Idealize.ShloMosaic.TcCoe Idealize.SL.Sem
open Cert.Na (Finite)
open Cert.ProjRef (rsig rsilu rforget)

theorem half_eq : half = ((1 / 2 : ℝ) : EReal) := by
  unfold half
  simp [Ideal.ofBits, Ideal.ieee]
  rw [← EReal.coe_mul]
  congr 1
  norm_num

/-- On the reals, `½ tanh (x / 2) + ½` is the logistic function. -/
theorem tanh_half (r : ℝ) : 1 / 2 * Real.tanh (1 / 2 * r) + 1 / 2 = 1 / (1 + Real.exp (-r)) := by
  have e : Real.exp (-r) = Real.exp (-(1 / 2 * r)) * Real.exp (-(1 / 2 * r)) := by rw [← Real.exp_add]; congr 1; ring
  have hx := Real.exp_pos (1 / 2 * r)
  have hy := Real.exp_pos (-(1 / 2 * r))
  have hxy : Real.exp (1 / 2 * r) * Real.exp (-(1 / 2 * r)) = 1 := by rw [← Real.exp_add]; simp
  rw [Real.tanh_eq_sinh_div_cosh, Real.sinh_eq, Real.cosh_eq, e]
  generalize Real.exp (1 / 2 * r) = x at *
  generalize Real.exp (-(1 / 2 * r)) = y at *
  field_simp
  nlinarith [hxy]

theorem rsig_coe (r : ℝ) : rsig (r : EReal) = ((1 / (1 + Real.exp (-r)) : ℝ) : EReal) := by
  unfold rsig
  have := Real.exp_pos (-r)
  rw [← EReal.coe_neg, Ideal.exp_coe, ← EReal.coe_one, ← EReal.coe_add, Ideal.div_coe (by positivity), ← EReal.coe_mul, one_mul]

/-- The two logistic functions agree on finite arguments. -/
theorem tsig_eq (x : EReal) (f : Finite x) : tsig x = rsig x := by
  obtain ⟨r, rfl⟩ := f
  rw [rsig_coe, ← tanh_half, tsig, half_eq, ← EReal.coe_mul, Ideal.tanh_coe, ← EReal.coe_mul, ← EReal.coe_add]

/-- The two silus agree on finite arguments. -/
theorem tsilu_eq (x : EReal) (f : Finite x) : tsilu x = rsilu x := by
  obtain ⟨r, rfl⟩ := f
  rw [rsilu, rsig_coe, ← tanh_half, tsilu, half_eq, ← EReal.coe_mul, Ideal.tanh_coe, ← EReal.coe_mul, ← EReal.coe_add, ← EReal.coe_mul]
  congr 1
  ring

theorem logForget_eq (l x : EReal) (f : Finite x) : logForget l x = rforget l x := by
  rw [logForget, rforget, tsig_eq x f]

/-- The row's length and the small constant of the normalisation, as real numbers. -/
theorem len_eq : ∃ n : ℝ, 0 < n ∧ Ideal.ofBits FTy.f32 1149239296#32 = (n : EReal) := by
  refine ⟨1024, by norm_num, ?_⟩
  simp [Ideal.ofBits, Ideal.ieee]
  rw [← EReal.coe_mul]
  congr 1
  norm_num
theorem eps_eq : ∃ n : ℝ, 0 < n ∧ Ideal.ofBits FTy.f32 897988541#32 = (n : EReal) := by
  refine ⟨2 ^ (107 - 150 : ℤ) * 8796093, by positivity, ?_⟩
  simp [Ideal.ofBits, Ideal.ieee]
  rw [← EReal.coe_mul]
  congr 1
  norm_num

/-- The squares of a finite row sum to a nonnegative real number. -/
theorem sum_sq {n : Nat} (f : Fin n → EReal) (h : ∀ x, Finite (f x)) : ∃ q : ℝ, 0 ≤ q ∧ (∑ x, f x * f x) = (q : EReal) := by
  refine Finset.induction_on (motive := fun s => ∃ q : ℝ, 0 ≤ q ∧ (∑ x ∈ s, f x * f x) = (q : EReal)) Finset.univ ⟨0, le_refl _, by simp⟩ ?_
  rintro a s ha ⟨q, hq, e⟩
  obtain ⟨r, hr⟩ := h a
  exact ⟨r * r + q, add_nonneg (mul_self_nonneg r) hq, by rw [Finset.sum_insert ha, e, ← hr, EReal.coe_add, EReal.coe_mul]⟩

theorem sq_nonneg (x : EReal) : 0 ≤ x * x := by
  induction x with
  | bot => simp
  | top => simp
  | coe r => exact_mod_cast mul_self_nonneg r

/-- A normalised entry is finite whatever the row is: a row with an infinite entry has the normalising factor zero, and
    a finite row the inverse root of a positive number. -/
theorem finite_norm {n : Nat} (f : Fin n → EReal) (k : Fin n) :
    Finite (f k * Ideal.rsqrt (Ideal.div (∑ x, f x * f x) (Ideal.ofBits FTy.f32 1149239296#32) + Ideal.ofBits FTy.f32 897988541#32)) := by
  obtain ⟨l, hl, el⟩ := len_eq
  obtain ⟨p, hp, ep⟩ := eps_eq
  by_cases h : ∀ x, Finite (f x)
  · obtain ⟨q, hq, e⟩ := sum_sq f h
    have hpos : 0 < q * (1 / l) + p := by positivity
    refine (h k).mul ?_
    rw [e, el, ep, Ideal.div_coe hl.ne', ← EReal.coe_mul, ← EReal.coe_add, Ideal.rsqrt_coe, if_neg (not_lt.2 hpos.le), if_neg hpos.ne']
    exact ⟨_, rfl⟩
  · obtain ⟨y, hy⟩ := not_forall.1 h
    have ht : f y * f y = ⊤ := by
      induction hf : f y with
      | bot => simp
      | top => simp
      | coe r => exact absurd ⟨r, hf.symm⟩ hy
    have hs : (∑ x, f x * f x) = ⊤ := top_le_iff.1 (ht ▸ Finset.single_le_sum (f := fun x => f x * f x) (fun x _ => sq_nonneg (f x)) (Finset.mem_univ y))
    rw [hs, el, ep, Ideal.div_coe hl.ne', EReal.top_mul_coe_of_pos (by positivity), EReal.top_add_coe]
    exact ⟨0, by simp⟩

section finite
open Cert.Kernel2Ideal
variable (X : Vec Ideal S2x8192x1024 .f32) (SC SH : Vec Ideal S2x1x1024 .f32) (NW : Vec Ideal S1x1024 .f32) (W : Vec Ideal S1x1024x4096 .f32)

/-- The projections of finite arguments are finite. -/
theorem finite_proj (fc : ∀ i, Finite (SC i)) (fs : ∀ i, Finite (SH i)) (fn : ∀ i, Finite (NW i)) (fw : ∀ i, Finite (W i))
    (b : Fin 2) (T : Fin 8192) (n : Fin 4096) : Finite (proj X SC SH NW W b T n) :=
  Finite.sum _ fun k => Finite.mul ((((finite_norm (fun x => X (ix3 b T x)) k).mul (fn _)).mul
    (Finite.add ⟨1, EReal.coe_one⟩ (fc _))).add (fs _)) (fw _)
end finite

end Cert.Proj
-- ==== Proof.MixRow.lean ====
/- THE OUTPUT PROJECTION AND THE FEED-FORWARD PART OF ONE TOKEN: from its row of each argument, its row of the result. -/
module

public import proofs.«01_k».proof.Proof.ProjMath

@[expose] public section

noncomputable section

namespace Cert.Mix

open Idealize.ShloMosaic
open Cert.Na (Finite)
open Cert.Proj (tsilu tsilu_eq finite_norm)
open Cert.ProjRef (rsilu)

/-- An entry of a row over the row's root mean square; `l` is the row's length. -/
def rnorm {n : Nat} (l : EReal) (f : Fin n → EReal) (k : Fin n) : EReal :=
  f k * Ideal.rsqrt (Ideal.div (∑ x, f x * f x) l + Ideal.ofBits FTy.f32 897988541#32)

/-- The lengths 128 and 1024. -/
def l128 : EReal := Ideal.ofBits FTy.f32 1124073472#32
def l1024 : EReal := Ideal.ofBits FTy.f32 1149239296#32

/-- The channel of a head. -/
def chan (h : Fin 4) (e : Fin 128) : Fin 512 := ⟨h.val * 128 + e.val, by omega⟩
/-- A channel's head, and its place in the head. -/
def hd (k : Fin 512) : Fin 4 := ⟨k.val / 128, by omega⟩
def pl (k : Fin 512) : Fin 128 := ⟨k.val % 128, Nat.mod_lt _ (by norm_num)⟩

/-- The recurrence's output: each head normalised, weighted and gated. -/
def gated (o g : Fin 512 → EReal) (w : Fin 128 → EReal) (k : Fin 512) : EReal :=
  rnorm l128 (fun x => o (chan (hd k) x)) (pl k) * w (pl k) * g k

/-- The two halves of the mixer's channels. -/
def lo (k : Fin 512) : Fin 1024 := ⟨k.val, by omega⟩
def hi (k : Fin 512) : Fin 1024 := ⟨512 + k.val, by omega⟩

/-- The output projection of the attention's channels and the recurrence's. -/
def mixed (y h : Fin 512 → EReal) (wo : Fin 1024 → Fin 1024 → EReal) (n : Fin 1024) : EReal :=
  (∑ k, y k * wo (lo k) n) + ∑ k, h k * wo (hi k) n

/-- A branch's output, normalised, weighted, scaled, and added to the row. -/
def added (x gt w y : Fin 1024 → EReal) (n : Fin 1024) : EReal := x n + gt n * (rnorm l1024 y n * w n)

/-- A row normalised, weighted and modulated. -/
def modulated (x w sc sh : Fin 1024 → EReal) (n : Fin 1024) : EReal := rnorm l1024 x n * w n * (1 + sc n) + sh n

/-- A column of the gates and a column of what they gate. -/
def cg (j : Fin 2816) : Fin 5632 := ⟨j.val, by omega⟩
def cu (j : Fin 2816) : Fin 5632 := ⟨2816 + j.val, by omega⟩

/-- A product of a row with a column. -/
def times {n p : Nat} (h : Fin n → EReal) (w : Fin n → Fin p → EReal) (j : Fin p) : EReal := ∑ k, h k * w k j

/-- The gated unit, with the given silu. -/
def unit (silu : EReal → EReal) (h : Fin 1024 → EReal) (w1 : Fin 1024 → Fin 5632 → EReal) (j : Fin 2816) : EReal :=
  silu (times h w1 (cg j)) * times h w1 (cu j)

/-- The row after the output projection. -/
def mid (y o g : Fin 512 → EReal) (hw : Fin 128 → EReal) (wo : Fin 1024 → Fin 1024 → EReal) (x gt nm : Fin 1024 → EReal) : Fin 1024 → EReal :=
  added x gt nm (mixed y (gated o g hw) wo)

/-- The row after the feed-forward part. -/
def ffn (silu : EReal → EReal) (x1 sc sh gf np no : Fin 1024 → EReal) (w1 : Fin 1024 → Fin 5632 → EReal) (w2 : Fin 2816 → Fin 1024 → EReal) : Fin 1024 → EReal :=
  added x1 gf no (times (unit silu (modulated x1 np sc sh) w1) w2)

/-- With finite modulation and weights, what silu is given is finite whatever the row is, so the version's silu is silu there. -/
theorem ffn_eq (x1 sc sh gf np no : Fin 1024 → EReal) (w1 : Fin 1024 → Fin 5632 → EReal) (w2 : Fin 2816 → Fin 1024 → EReal)
    (fc : ∀ n, Finite (sc n)) (fs : ∀ n, Finite (sh n)) (fn : ∀ n, Finite (np n)) (fw : ∀ k j, Finite (w1 k j)) :
    ffn tsilu x1 sc sh gf np no w1 w2 = ffn rsilu x1 sc sh gf np no w1 w2 := by
  have hu : unit tsilu (modulated x1 np sc sh) w1 = unit rsilu (modulated x1 np sc sh) w1 := by
    funext j
    unfold unit
    rw [tsilu_eq]
    exact Finite.sum _ fun k => Finite.mul ((((finite_norm x1 k).mul (fn _)).mul
      (Finite.add ⟨1, EReal.coe_one⟩ (fc _))).add (fs _)) (fw _ _)
  unfold ffn
  rw [hu]

end Cert.Mix
-- ==== Proof.MixPay.lean ====
/- WHAT THE OUTPUT PROJECTION'S AND THE FEED-FORWARD PART'S BODY COMPUTES, index by index. -/
module

public import proofs.«01_k».proof.Proof.MixRow
public import proofs.«01_k».proof.Proof.Gen.Kernel3Ideal.Skeleton

@[expose] public section

set_option maxRecDepth 16384

noncomputable section

namespace Cert.Mix

open Cert.Kernel3Ideal Cert.Kernel3Ideal.Gen
open Idealize.ShloMosaic Idealize.ShloMosaic.TcCoe Idealize.SL.Sem

/-- A slab of the gated unit, from the hidden state and the slab's columns. -/
theorem slab (hb : FVec Ideal S512x1024 .bf16) (a b : Vec Ideal S1024x256 .bf16) (r : Fin 512) (j : Fin 256) :
    k0_pay28 (F := Ideal) hb a b (ix2 r j) = Cert.Proj.tsilu (∑ k, hb (ix2 r k) * a (ix2 k j)) * ∑ k, hb (ix2 r k) * b (ix2 k j) := by
  pointwise [k0_pay28]
  rfl

/-- A head's normalised entry, by its channel's head and place. -/
theorem gated_at (o g : Fin 512 → EReal) (w : Fin 128 → EReal) (k : Fin 512) (h : Fin 4) (e : Fin 128) (hk : k.val = h.val * 128 + e.val) :
    gated o g w k = o k * Ideal.rsqrt (Ideal.div (∑ x, o (chan h x) * o (chan h x)) (Ideal.ofBits FTy.f32 1124073472#32) + Ideal.ofBits FTy.f32 897988541#32) * w e * g k := by
  have hh : hd k = h := Fin.ext (by simp only [hd]; omega)
  have hp : pl k = e := Fin.ext (by simp only [pl]; omega)
  have hc : k = chan h e := Fin.ext hk
  unfold gated rnorm
  rw [hh, hp]
  subst hc
  rfl

/-- The recurrence's output, gated. -/
theorem gates (p q : Vec Ideal S1x512x512 .f32) (g : Vec Ideal S1x512x512 .bf16) (w : Vec Ideal S1x128 .f32) (r : Fin 512) (k : Fin 512) :
    k0_pay9 (F := Ideal) (k0_pay3 p q) (k0_pay4 g) (k0_pay5 w) (k0_pay6 p q g w) (k0_pay7 p q) (k0_pay8 p q) (ix2 r k) =
      gated (fun k => p (ix3 0 r k) + q (ix3 0 r k)) (fun k => g (ix3 0 r k)) (fun e => w (ix2 0 e)) k := by
  have ho : ∀ k, k0_pay3 (F := Ideal) p q (ix2 r k) = p (ix3 0 r k) + q (ix3 0 r k) := by
    intro k
    pointwise [k0_pay3]
  have hg : ∀ k, k0_pay4 (F := Ideal) g (ix2 r k) = g (ix3 0 r k) := by
    intro k
    pointwise [k0_pay4]
  unfold k0_pay6 k0_pay8 k0_pay7
  generalize k0_pay3 (F := Ideal) p q = O at ho ⊢
  generalize k0_pay4 (F := Ideal) g = G at hg ⊢
  pointwise [k0_pay9, k0_pay5]
  simp only [ho, hg]
  have hk := k.isLt
  have c0 : ∀ (x : Fin 128) (h : x.val < 512), (⟨x.val, h⟩ : Fin 512) = chan 0 x := fun x _ => Fin.ext (by simp [chan])
  have c1 : ∀ (x : Fin 128) (h : 128 + x.val < 512), (⟨128 + x.val, h⟩ : Fin 512) = chan 1 x := fun x _ => Fin.ext (by simp [chan])
  have c2 : ∀ (x : Fin 128) (h : 256 + x.val < 512), (⟨256 + x.val, h⟩ : Fin 512) = chan 2 x := fun x _ => Fin.ext (by simp [chan])
  have c3 : ∀ (x : Fin 128) (h : 384 + x.val < 512), (⟨384 + x.val, h⟩ : Fin 512) = chan 3 x := fun x _ => Fin.ext (by simp [chan])
  by_cases h0 : k.val < 128
  · refine (dif_pos h0).trans ?_
    rw [gated_at _ _ _ k 0 ⟨k.val, h0⟩ (by simp)]
    simp only [c0]
  refine (dif_neg h0).trans ?_
  by_cases h1 : k.val - 128 < 128
  · refine (dif_pos h1).trans ?_
    have e : ∀ h, (⟨128 + (k.val - 128), h⟩ : Fin 512) = k := fun _ => Fin.ext (by dsimp only; omega)
    rw [gated_at _ _ _ k 1 ⟨k.val - 128, h1⟩ (by show k.val = 1 * 128 + (k.val - 128); omega)]
    simp only [c1, e]
  refine (dif_neg h1).trans ?_
  by_cases h2 : k.val - 128 - 128 < 128
  · refine (dif_pos h2).trans ?_
    have e : ∀ h, (⟨256 + (k.val - 128 - 128), h⟩ : Fin 512) = k := fun _ => Fin.ext (by dsimp only; omega)
    rw [gated_at _ _ _ k 2 ⟨k.val - 128 - 128, h2⟩ (by show k.val = 2 * 128 + (k.val - 128 - 128); omega)]
    simp only [c2, e]
  refine (dif_neg h2).trans ?_
  have e : ∀ h, (⟨384 + (k.val - 128 - 128 - 128), h⟩ : Fin 512) = k := fun _ => Fin.ext (by dsimp only; omega)
  rw [gated_at _ _ _ k 3 ⟨k.val - 128 - 128 - 128, by omega⟩ (by show k.val = 3 * 128 + (k.val - 128 - 128 - 128); omega)]
  simp only [c3, e]

/-- The output projection, normalised. -/
theorem projected (h : FVec Ideal S512x512 .bf16) (y : Vec Ideal S1x512x512 .bf16) (a b : Vec Ideal S512x1024 .bf16) (nm : Vec Ideal S1x1024 .f32) (r : Fin 512) (n : Fin 1024) :
    k0_pay16 (F := Ideal) h y a b nm (ix2 r n) =
      rnorm l1024 (fun n => (∑ k, y (ix3 0 r k) * a (ix2 k n)) + ∑ k, h (ix2 r k) * b (ix2 k n)) n * nm (ix2 0 n) := by
  pointwise [k0_pay16]
  rfl

/-- The row after it. -/
theorem after (h : FVec Ideal S512x512 .bf16) (y : Vec Ideal S1x512x512 .bf16) (a b : Vec Ideal S512x1024 .bf16) (nm : Vec Ideal S1x1024 .f32)
    (x : Vec Ideal S1x512x1024 .f32) (gt : Vec Ideal S1x1x1024 .f32) (r : Fin 512) (n : Fin 1024) :
    k0_pay18 (F := Ideal) (k0_pay15 x) (k0_pay16 h y a b nm) (k0_pay17 gt) (ix2 r n) =
      added (fun n => x (ix3 0 r n)) (fun n => gt (ix3 0 0 n)) (fun n => nm (ix2 0 n)) (fun n => (∑ k, y (ix3 0 r k) * a (ix2 k n)) + ∑ k, h (ix2 r k) * b (ix2 k n)) n := by
  have hp := projected h y a b nm r
  generalize k0_pay16 (F := Ideal) h y a b nm = H at hp ⊢
  pointwise [k0_pay18, k0_pay15, k0_pay17]
  rw [hp]
  rfl

/-- The hidden state. -/
theorem hidden (u v w : FVec Ideal S512x1024 .f32) (np : Vec Ideal S1x1024 .f32) (sc sh : Vec Ideal S1x1x1024 .f32) (r : Fin 512) (n : Fin 1024) :
    k0_pay19 (F := Ideal) u v w np sc sh (ix2 r n) =
      modulated (fun n => k0_pay18 u v w (ix2 r n)) (fun n => np (ix2 0 n)) (fun n => sc (ix3 0 0 n)) (fun n => sh (ix3 0 0 n)) n := by
  unfold k0_pay19
  generalize k0_pay18 (F := Ideal) u v w = H
  pointwise []
  rfl

/-- The block's row, from the row after the output projection and the gated unit. -/
theorem finished (x1 : FVec Ideal S512x1024 .f32) (act : Vec Ideal S512x2816 .bf16) (w2 : Vec Ideal S2816x1024 .bf16) (gf : Vec Ideal S1x1x1024 .f32) (no : Vec Ideal S1x1024 .f32) (r : Fin 512) (n : Fin 1024) :
    k0_pay1 (F := Ideal) x1 (k0_pay75 act w2) (k0_pay76 gf) (k0_pay77 no) (k0_pay78 act w2) (ix3 0 r n) =
      added (fun n => x1 (ix2 r n)) (fun n => gf (ix3 0 0 n)) (fun n => no (ix2 0 n)) (times (fun j => act (ix2 r j)) (fun j n => w2 (ix2 j n))) n := by
  have hz : ∀ n, k0_pay75 (F := Ideal) act w2 (ix2 r n) = times (fun j => act (ix2 r j)) (fun j n => w2 (ix2 j n)) n := by
    intro n
    pointwise [k0_pay75]
    rfl
  unfold k0_pay78
  generalize k0_pay75 (F := Ideal) act w2 = Z at hz ⊢
  pointwise [k0_pay1, k0_pay76, k0_pay77]
  simp only [hz]
  rfl

/-- The later points compute the same values from the same blocks: the row after the output projection, -/
theorem after_same (p q : Vec Ideal S1x512x512 .f32) (g y : Vec Ideal S1x512x512 .bf16) (w : Vec Ideal S1x128 .f32) (a b : Vec Ideal S512x1024 .bf16)
    (x : Vec Ideal S1x512x1024 .f32) (gt : Vec Ideal S1x1x1024 .f32) (nm : Vec Ideal S1x1024 .f32) :
    k0_pay87 (F := Ideal) (k0_pay85 (k0_pay79 p q) (k0_pay80 g) (k0_pay81 w) (k0_pay82 p q g w) (k0_pay83 p q g w) (k0_pay84 p q) y a b) (k0_pay86 x) gt nm =
      k0_pay18 (k0_pay15 x) (k0_pay16 (k0_pay9 (k0_pay3 p q) (k0_pay4 g) (k0_pay5 w) (k0_pay6 p q g w) (k0_pay7 p q) (k0_pay8 p q)) y a b nm) (k0_pay17 gt) := rfl

/-- the hidden state, -/
theorem hidden_same (p q : Vec Ideal S1x512x512 .f32) (g y : Vec Ideal S1x512x512 .bf16) (w : Vec Ideal S1x128 .f32) (a b : Vec Ideal S512x1024 .bf16)
    (x : Vec Ideal S1x512x1024 .f32) (gt : Vec Ideal S1x1x1024 .f32) (nm np : Vec Ideal S1x1024 .f32) (sc sh : Vec Ideal S1x1x1024 .f32) :
    k0_pay90 (F := Ideal) (k0_pay88 (k0_pay85 (k0_pay79 p q) (k0_pay80 g) (k0_pay81 w) (k0_pay82 p q g w) (k0_pay83 p q g w) (k0_pay84 p q) y a b) (k0_pay86 x) gt nm np sc) (k0_pay89 sh) =
      k0_pay19 (k0_pay15 x) (k0_pay16 (k0_pay9 (k0_pay3 p q) (k0_pay4 g) (k0_pay5 w) (k0_pay6 p q g w) (k0_pay7 p q) (k0_pay8 p q)) y a b nm) (k0_pay17 gt) np sc sh := by
  have h := after_same p q g y w a b x gt nm
  unfold k0_pay90 k0_pay88 k0_pay19
  rw [h]
  rfl

/-- the slabs whose hidden state is not yet formed, -/
theorem slab91 (u : FVec Ideal S512x1024 .f32) (v : FVec Ideal S1x1024 .f32) (a b : Vec Ideal S1024x256 .bf16) : k0_pay91 (F := Ideal) u v a b = k0_pay28 (k0_pay90 u v) a b := rfl
theorem slab92 (u : FVec Ideal S512x1024 .f32) (v : FVec Ideal S1x1024 .f32) (a b : Vec Ideal S1024x256 .bf16) : k0_pay92 (F := Ideal) u v a b = k0_pay28 (k0_pay90 u v) a b := rfl
theorem slab93 (u : FVec Ideal S512x1024 .f32) (v : FVec Ideal S1x1024 .f32) (a b : Vec Ideal S1024x256 .bf16) :
    k0_pay94 (F := Ideal) (k0_pay90 u v) (k0_pay93 u v a) b (constant S512x256 .f32 0x00000000#32) = k0_pay28 (k0_pay90 u v) a b := rfl

/-- and the block's row. -/
theorem finished_same (x1 : FVec Ideal S512x1024 .f32) (act : Vec Ideal S512x2816 .bf16) (w2 : Vec Ideal S2816x1024 .bf16) (gf : Vec Ideal S1x1x1024 .f32) (no : Vec Ideal S1x1024 .f32) :
    k0_pay2 (F := Ideal) x1 (k0_pay106 act w2 no) (k0_pay107 gf) = k0_pay1 x1 (k0_pay75 act w2) (k0_pay76 gf) (k0_pay77 no) (k0_pay78 act w2) := rfl

end Cert.Mix
-- ==== Proof.MixBlock.lean ====
module

public import proofs.«01_k».proof.Proof.MixPay
public import proofs.«01_k».proof.Proof.Gen.Kernel3Ideal.Value
public import Idealize.ShloMosaic.Lib.Pipeline.ValueKit
public import Idealize.ShloMosaic.Lib.Pipeline.ReadBack
public import Idealize.ShloMosaic.Lib.Pointwise
import Idealize.ShloMosaic.Lib.Claim

@[expose] public section

set_option maxRecDepth 16384

noncomputable section

namespace Cert.Mix

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The block's row from the blocks and the three weight matrices. -/
def blockRow (x0 : Vec Ideal S1x512x512 .bf16) (x1 x2 : Vec Ideal S1x512x512 .f32) (x3 : Vec Ideal S1x512x512 .bf16) (x4 : Vec Ideal S1x128 .f32)
    (x5 : Vec Ideal S1x512x1024 .f32) (x6 : Vec Ideal S1x1x1024 .f32) (x7 : Vec Ideal S1x1024 .f32) (x8 x9 x10 : Vec Ideal S1x1x1024 .f32) (x11 x12 : Vec Ideal S1x1024 .f32)
    (wo : Vec Ideal S1024x1024 .bf16) (w1 : Vec Ideal S1024x5632 .bf16) (w2 : Vec Ideal S2816x1024 .bf16) (r : Fin 512) : Fin 1024 → EReal :=
  ffn Cert.Proj.tsilu
    (mid (fun k => x0 (ix3 0 r k)) (fun k => x1 (ix3 0 r k) + x2 (ix3 0 r k)) (fun k => x3 (ix3 0 r k)) (fun e => x4 (ix2 0 e)) (fun k n => wo (ix2 k n))
      (fun n => x5 (ix3 0 r n)) (fun n => x6 (ix3 0 0 n)) (fun n => x7 (ix2 0 n)))
    (fun n => x8 (ix3 0 0 n)) (fun n => x9 (ix3 0 0 n)) (fun n => x10 (ix3 0 0 n)) (fun n => x11 (ix2 0 n)) (fun n => x12 (ix2 0 n)) (fun k j => w1 (ix2 k j)) (fun j n => w2 (ix2 j n))

/-- A slab's entry is the gated unit's at the slab's column. -/
theorem slab_ld (hb : FVec Ideal S512x1024 .bf16) (w1 : Vec Ideal S1024x5632 .bf16) (o o' : Nat) (ho : o' = 2816 + o)
    (i1 : ∀ a, (![0, o] : Fin 2 → Nat) a + (![1024, 256] : Fin 2 → Nat) a ≤ S1024x5632.size a)
    (i2 : ∀ a, (![0, o'] : Fin 2 → Nat) a + (![1024, 256] : Fin 2 → Nat) a ≤ S1024x5632.size a)
    (x : S512x256.Idx) (r : Fin 512) (j : Fin 2816) (h0 : r.val = (x 0).val) (h1 : j.val = o + (x 1).val) :
    k0_pay28 (F := Ideal) hb (View.ld w1 (Rect.unit ![0, o] ![1024, 256] i1)) (View.ld w1 (Rect.unit ![0, o'] ![1024, 256] i2)) x =
      unit Cert.Proj.tsilu (fun n => hb (ix2 r n)) (fun k j => w1 (ix2 k j)) j := by
  have hx : x = ix2 (x 0) (x 1) := (ix2_eta x).symm
  have hr : x 0 = r := Fin.ext (by omega)
  rw [hx]
  refine (slab hb _ _ (x 0) (x 1)).trans ?_
  rw [hr]
  have e1 : ∀ k, View.ld w1 (Rect.unit ![0, o] ![1024, 256] i1) (ix2 k (x 1)) = w1 (ix2 k (cg j)) := fun k => by
    refine congrArg w1 (funext fun a => Fin.ext ?_)
    fin_cases a
    · show 0 + 1 * k.val = k.val
      omega
    · show o + 1 * (x 1).val = j.val
      omega
  have e2 : ∀ k, View.ld w1 (Rect.unit ![0, o'] ![1024, 256] i2) (ix2 k (x 1)) = w1 (ix2 k (cu j)) := fun k => by
    refine congrArg w1 (funext fun a => Fin.ext ?_)
    fin_cases a
    · show 0 + 1 * k.val = k.val
      omega
    · show o' + 1 * (x 1).val = 2816 + j.val
      omega
  unfold unit times
  congr 1
  · congr 1
    exact Finset.sum_congr rfl fun k _ => congrArg _ (e1 k)
  · exact Finset.sum_congr rfl fun k _ => congrArg _ (e2 k)

/-- A tile of a weight matrix copied in from the whole array, its leading axis of length one dropped. -/
theorem tile5 (W : Vec Ideal S1x1024x1024 .f32) (o : Nat) (i : ∀ a, (![0, o, 0] : Fin 3 → Nat) a + (![1, 256, 1024] : Fin 3 → Nat) a ≤ S1x1024x1024.size a)
    (x : S256x1024.Idx) (p : Fin 1024) (q : Fin 1024) (h0 : p.val = o + (x 0).val) (h1 : q.val = (x 1).val) :
    k0_pay10 (F := Ideal) (ReadAs.same.apply (View.read (Elt Ideal) ((View.whole main_arg5).slice (Rect.unit ![0, o, 0] ![1, 256, 1024] i)) W)) x = W (ix3 0 p q) := by
  have hc : ∀ (s : Vec Ideal S1x256x1024 .f32) k e, k0_pay10 (F := Ideal) s (ix2 k e) = s (ix3 0 k e) := fun s k e => by
    pointwise [k0_pay10]
  rw [show x = ix2 (x 0) (x 1) from (ix2_eta x).symm]
  refine (hc _ (x 0) (x 1)).trans ?_
  refine congrArg W (funext fun a => Fin.ext ?_)
  fin_cases a
  · rfl
  · show o + 1 * (x 0).val = p.val
    omega
  · show 0 + 1 * (x 1).val = q.val
    omega

/-- A tile of a weight matrix copied in from the whole array, its leading axis of length one dropped. -/
theorem tile14 (W : Vec Ideal S1x1024x5632 .f32) (o : Nat) (i : ∀ a, (![0, 0, o] : Fin 3 → Nat) a + (![1, 1024, 256] : Fin 3 → Nat) a ≤ S1x1024x5632.size a)
    (x : S1024x256.Idx) (p : Fin 1024) (q : Fin 5632) (h0 : p.val = (x 0).val) (h1 : q.val = o + (x 1).val) :
    k0_pay22 (F := Ideal) (ReadAs.same.apply (View.read (Elt Ideal) ((View.whole main_arg14).slice (Rect.unit ![0, 0, o] ![1, 1024, 256] i)) W)) x = W (ix3 0 p q) := by
  have hc : ∀ (s : Vec Ideal S1x1024x256 .f32) k e, k0_pay22 (F := Ideal) s (ix2 k e) = s (ix3 0 k e) := fun s k e => by
    pointwise [k0_pay22]
  rw [show x = ix2 (x 0) (x 1) from (ix2_eta x).symm]
  refine (hc _ (x 0) (x 1)).trans ?_
  refine congrArg W (funext fun a => Fin.ext ?_)
  fin_cases a
  · rfl
  · show 0 + 1 * (x 0).val = p.val
    omega
  · show o + 1 * (x 1).val = q.val
    omega

/-- A tile of a weight matrix copied in from the whole array, its leading axis of length one dropped. -/
theorem tile15 (W : Vec Ideal S1x2816x1024 .f32) (o : Nat) (i : ∀ a, (![0, o, 0] : Fin 3 → Nat) a + (![1, 256, 1024] : Fin 3 → Nat) a ≤ S1x2816x1024.size a)
    (x : S256x1024.Idx) (p : Fin 2816) (q : Fin 1024) (h0 : p.val = o + (x 0).val) (h1 : q.val = (x 1).val) :
    k0_pay25 (F := Ideal) (ReadAs.same.apply (View.read (Elt Ideal) ((View.whole main_arg15).slice (Rect.unit ![0, o, 0] ![1, 256, 1024] i)) W)) x = W (ix3 0 p q) := by
  have hc : ∀ (s : Vec Ideal S1x256x1024 .f32) k e, k0_pay25 (F := Ideal) s (ix2 k e) = s (ix3 0 k e) := fun s k e => by
    pointwise [k0_pay25]
  rw [show x = ix2 (x 0) (x 1) from (ix2_eta x).symm]
  refine (hc _ (x 0) (x 1)).trans ?_
  refine congrArg W (funext fun a => Fin.ext ?_)
  fin_cases a
  · rfl
  · show o + 1 * (x 0).val = p.val
    omega
  · show 0 + 1 * (x 1).val = q.val
    omega

/-- The same where the two slabs of the weights come as reads of slices of the whole array, its leading axis of length one dropped. -/
theorem slab_slice (hb : FVec Ideal S512x1024 .bf16) (W : Vec Ideal S1x1024x5632 .f32) (o o' : Nat) (ho : o' = 2816 + o)
    (i1 : ∀ a, (![0, 0, o] : Fin 3 → Nat) a + (![1, 1024, 256] : Fin 3 → Nat) a ≤ S1x1024x5632.size a)
    (i2 : ∀ a, (![0, 0, o'] : Fin 3 → Nat) a + (![1, 1024, 256] : Fin 3 → Nat) a ≤ S1x1024x5632.size a)
    (x : S512x256.Idx) (r : Fin 512) (j : Fin 2816) (h0 : r.val = (x 0).val) (h1 : j.val = o + (x 1).val) :
    k0_pay28 (F := Ideal) hb (k0_pay22 (ReadAs.same.apply (View.read (Elt Ideal) ((View.whole main_arg14).slice (Rect.unit ![0, 0, o] ![1, 1024, 256] i1)) W)))
        (k0_pay22 (ReadAs.same.apply (View.read (Elt Ideal) ((View.whole main_arg14).slice (Rect.unit ![0, 0, o'] ![1, 1024, 256] i2)) W))) x =
      unit Cert.Proj.tsilu (fun n => hb (ix2 r n)) (fun k j => W (ix3 0 k j)) j := by
  have hx : x = ix2 (x 0) (x 1) := (ix2_eta x).symm
  have hr : x 0 = r := Fin.ext (by omega)
  have hc : ∀ (s : Vec Ideal S1x1024x256 .f32) k e, k0_pay22 (F := Ideal) s (ix2 k e) = s (ix3 0 k e) := fun s k e => by
    pointwise [k0_pay22]
  rw [hx]
  refine (slab hb _ _ (x 0) (x 1)).trans ?_
  rw [hr]
  have e1 : ∀ k, k0_pay22 (F := Ideal) (ReadAs.same.apply (View.read (Elt Ideal) ((View.whole main_arg14).slice (Rect.unit ![0, 0, o] ![1, 1024, 256] i1)) W)) (ix2 k (x 1)) = W (ix3 0 k (cg j)) := fun k => by
    refine (hc _ k (x 1)).trans ?_
    refine congrArg W (funext fun a => Fin.ext ?_)
    fin_cases a
    · rfl
    · show 0 + 1 * k.val = k.val
      omega
    · show o + 1 * (x 1).val = j.val
      omega
  have e2 : ∀ k, k0_pay22 (F := Ideal) (ReadAs.same.apply (View.read (Elt Ideal) ((View.whole main_arg14).slice (Rect.unit ![0, 0, o'] ![1, 1024, 256] i2)) W)) (ix2 k (x 1)) = W (ix3 0 k (cu j)) := fun k => by
    refine (hc _ k (x 1)).trans ?_
    refine congrArg W (funext fun a => Fin.ext ?_)
    fin_cases a
    · rfl
    · show 0 + 1 * k.val = k.val
      omega
    · show o' + 1 * (x 1).val = 2816 + j.val
      omega
  unfold unit times
  congr 1
  · congr 1
    exact Finset.sum_congr rfl fun k _ => congrArg _ (e1 k)
  · exact Finset.sum_congr rfl fun k _ => congrArg _ (e2 k)

/-- The block the body leaves is the block's row, once the gated unit's slabs are the unit's entries and the projection's two halves the weights'. -/
theorem closes (x0 : Vec Ideal S1x512x512 .bf16) (x1 x2 : Vec Ideal S1x512x512 .f32) (x3 : Vec Ideal S1x512x512 .bf16) (x4 : Vec Ideal S1x128 .f32)
    (x5 : Vec Ideal S1x512x1024 .f32) (x6 : Vec Ideal S1x1x1024 .f32) (x7 : Vec Ideal S1x1024 .f32) (x8 x9 x10 : Vec Ideal S1x1x1024 .f32) (x11 x12 : Vec Ideal S1x1024 .f32)
    (wl wh : Vec Ideal S512x1024 .bf16) (wo : Vec Ideal S1024x1024 .bf16) (w1 : Vec Ideal S1024x5632 .bf16) (w2 v2 : Vec Ideal S2816x1024 .bf16) (h2 : ∀ j n, v2 (ix2 j n) = w2 (ix2 j n))
    (hl : ∀ k n, wl (ix2 k n) = wo (ix2 (lo k) n)) (hh : ∀ k n, wh (ix2 k n) = wo (ix2 (hi k) n))
    (X : FVec Ideal S512x1024 .f32) (hb : FVec Ideal S512x1024 .bf16) (act : Vec Ideal S512x2816 .bf16)
    (hX : k0_pay18 (F := Ideal) (k0_pay15 x5) (k0_pay16 (k0_pay9 (k0_pay3 x1 x2) (k0_pay4 x3) (k0_pay5 x4) (k0_pay6 x1 x2 x3 x4) (k0_pay7 x1 x2) (k0_pay8 x1 x2)) x0 wl wh x7) (k0_pay17 x6) = X)
    (hhb : k0_pay19 (F := Ideal) (k0_pay15 x5) (k0_pay16 (k0_pay9 (k0_pay3 x1 x2) (k0_pay4 x3) (k0_pay5 x4) (k0_pay6 x1 x2 x3 x4) (k0_pay7 x1 x2) (k0_pay8 x1 x2)) x0 wl wh x7) (k0_pay17 x6) x11 x8 x9 = hb)
    (r : Fin 512) (hact : ∀ j, act (ix2 r j) = unit Cert.Proj.tsilu (fun n => hb (ix2 r n)) (fun k j => w1 (ix2 k j)) j) (n : Fin 1024) :
    k0_pay1 (F := Ideal) X (k0_pay75 act v2) (k0_pay76 x10) (k0_pay77 x12) (k0_pay78 act v2) (ix3 0 r n) = blockRow x0 x1 x2 x3 x4 x5 x6 x7 x8 x9 x10 x11 x12 wo w1 w2 r n := by
  have eX : (fun n => X (ix2 r n)) =
      mid (fun k => x0 (ix3 0 r k)) (fun k => x1 (ix3 0 r k) + x2 (ix3 0 r k)) (fun k => x3 (ix3 0 r k)) (fun e => x4 (ix2 0 e)) (fun k n => wo (ix2 k n))
        (fun n => x5 (ix3 0 r n)) (fun n => x6 (ix3 0 0 n)) (fun n => x7 (ix2 0 n)) := by
    funext n
    rw [← hX]
    refine (after _ x0 wl wh x7 x5 x6 r n).trans ?_
    simp only [hl, hh, gates]
    rfl
  have eh : (fun n => hb (ix2 r n)) = modulated (fun n => X (ix2 r n)) (fun n => x11 (ix2 0 n)) (fun n => x8 (ix3 0 0 n)) (fun n => x9 (ix3 0 0 n)) := by
    funext n
    rw [← hhb, ← hX]
    exact hidden _ _ _ x11 x8 x9 r n
  refine (finished X act v2 x10 x12 r n).trans ?_
  unfold blockRow ffn
  simp only [h2]
  rw [← eX, ← eh]
  have ea : (fun j => act (ix2 r j)) = unit Cert.Proj.tsilu (fun n => hb (ix2 r n)) (fun k j => w1 (ix2 k j)) := funext hact
  rw [ea]

end Cert.Mix
-- ==== Proof.MixA.lean ====
module

public import proofs.«01_k».proof.Proof.MixBlock
public import proofs.«01_k».proof.Proof.Gen.Kernel3Ideal.Value
public import Idealize.ShloMosaic.Lib.Pipeline.ValueKit
public import Idealize.ShloMosaic.Lib.Pipeline.ReadBack
public import Idealize.ShloMosaic.Lib.Pointwise
import Idealize.ShloMosaic.Lib.Claim

@[expose] public section

set_option maxRecDepth 16384

noncomputable section

namespace Cert.Mix

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- After the first grid point the scratch of the output projection is its whole matrix. -/
theorem first1 (c : Dev nD) (t : Fin cfg0.N) (h0 : t.val % 32 = 0) (h1 : ¬ 1 ≤ t.val) :
    (outsAt0 (F := Ideal) m c t.val t.isLt).2.1 = fun i : S1024x1024.Idx => V m c main_arg5 (ix3 0 (i 0) (i 1)) := by
  funext y
  rw [outsAt0_A m c t h0 h1]
  frame_out
  simp (disch := decide) only [↓ View.readCov_skip, ↓ View.readCov_cons_toLoadRect, ↓ View.readCov_fill]
  generalize V m c main_arg5 = W
  clear h0 h1
  canon_tiles y h
  all_goals exact tile5 W _ _ y _ _ (by omega) (by omega)

/-- After the first grid point the scratch of the feed-forward part's first matrix is its whole matrix. -/
theorem first2 (c : Dev nD) (t : Fin cfg0.N) (h0 : t.val % 32 = 0) (h1 : ¬ 1 ≤ t.val) :
    (outsAt0 (F := Ideal) m c t.val t.isLt).2.2.1 = fun i : S1024x5632.Idx => V m c main_arg14 (ix3 0 (i 0) (i 1)) := by
  funext y
  rw [outsAt0_A m c t h0 h1]
  frame_out
  simp (disch := decide) only [↓ View.readCov_skip, ↓ View.readCov_cons_toLoadRect, ↓ View.readCov_fill]
  generalize V m c main_arg14 = W
  clear h0 h1
  canon_tiles y h
  all_goals exact tile14 W _ _ y _ _ (by omega) (by omega)

/-- After the first grid point the scratch of its second is its whole matrix. -/
theorem first3 (c : Dev nD) (t : Fin cfg0.N) (h0 : t.val % 32 = 0) (h1 : ¬ 1 ≤ t.val) :
    (outsAt0 (F := Ideal) m c t.val t.isLt).2.2.2 = fun i : S2816x1024.Idx => V m c main_arg15 (ix3 0 (i 0) (i 1)) := by
  funext y
  rw [outsAt0_A m c t h0 h1]
  frame_out
  simp (disch := decide) only [↓ View.readCov_skip, ↓ View.readCov_cons_toLoadRect, ↓ View.readCov_fill]
  generalize V m c main_arg15 = W
  clear h0 h1
  canon_tiles y h
  all_goals exact tile15 W _ _ y _ _ (by omega) (by omega)

/-- At a later point each scratch is what the point before left: -/
theorem later (c : Dev nD) (t : Fin cfg0.N) (h0 : ¬t.val % 32 = 0) (h1 : 1 ≤ t.val) (h : t.val - 1 < cfg0.N) :
    (outsAt0 (F := Ideal) m c t.val t.isLt).2 = (outsAt0 (F := Ideal) m c (t.val - 1) h).2 := by
  rw [outsAt0_B m c t h0 h1]
  rfl

/-- so each is its whole matrix at every point. -/
theorem held (c : Dev nD) : ∀ (n : Nat) (hn : n < cfg0.N), (outsAt0 (F := Ideal) m c n hn).2 =
    ((fun i : S1024x1024.Idx => V m c main_arg5 (ix3 0 (i 0) (i 1))), (fun i : S1024x5632.Idx => V m c main_arg14 (ix3 0 (i 0) (i 1))), (fun i : S2816x1024.Idx => V m c main_arg15 (ix3 0 (i 0) (i 1)))) := by
  intro n
  induction n with
  | zero =>
    intro hn
    exact Prod.ext (first1 m c ⟨0, hn⟩ (Nat.zero_mod _) (by show ¬1 ≤ 0; omega)) (Prod.ext (first2 m c ⟨0, hn⟩ (Nat.zero_mod _) (by show ¬1 ≤ 0; omega)) (first3 m c ⟨0, hn⟩ (Nat.zero_mod _) (by show ¬1 ≤ 0; omega)))
  | succ n ih =>
    intro hn
    have hN := lt_of_lt_of_eq hn (show cfg0.N = 32 from N_0)
    exact (later m c ⟨n + 1, hn⟩ (by show ¬(n + 1) % 32 = 0; omega) (by show 1 ≤ n + 1; omega) (Nat.lt_of_succ_lt hn)).trans (ih _)

end Cert.Mix
-- ==== Proof.MixB.lean ====
module

public import proofs.«01_k».proof.Proof.MixBlock
public import proofs.«01_k».proof.Proof.Gen.Kernel3Ideal.Value
public import Idealize.ShloMosaic.Lib.Pipeline.ValueKit
public import Idealize.ShloMosaic.Lib.Pipeline.ReadBack
public import Idealize.ShloMosaic.Lib.Pointwise
import Idealize.ShloMosaic.Lib.Claim

@[expose] public section

set_option maxRecDepth 16384

noncomputable section

namespace Cert.Mix

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- At a grid point after the first, the output block is the block's row of the blocks and of the weights the scratches hold. -/
theorem stepB (c : Dev nD) (t : Fin cfg0.N) (h0 : ¬t.val % 32 = 0) (h1 : 1 ≤ t.val) (W0 : Vec Ideal S1024x1024 .bf16) (W1 : Vec Ideal S1024x5632 .bf16) (W2 : Vec Ideal S2816x1024 .bf16)
    (hw : ∀ h, (outsAt0 (F := Ideal) m c (t.val - 1) h).2 = (W0, W1, W2)) (r : Fin 512) (n : Fin 1024) :
   (outsAt0 (F := Ideal) m c t.val t.isLt).1 (ix3 0 r n) =
     blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) W0 W1 W2 r n := by
  rw [outsAt0_B m c t h0 h1]
  frame_out
  simp only [read_unread_whole, hw]
  generalize (iblk m c 0 t) = x0
  generalize (iblk m c 1 t) = x1
  generalize (iblk m c 2 t) = x2
  generalize (iblk m c 3 t) = x3
  generalize (iblk m c 4 t) = x4
  generalize (iblk m c 5 t) = x5
  generalize (iblk m c 6 t) = x6
  generalize (iblk m c 7 t) = x7
  generalize (iblk m c 8 t) = x8
  generalize (iblk m c 9 t) = x9
  generalize (iblk m c 10 t) = x10
  generalize (iblk m c 11 t) = x11
  generalize (iblk m c 12 t) = x12
  simp only [slab93, slab91, slab92]
  simp only [hidden_same, after_same]
  generalize hhb : k0_pay19 (F := Ideal) _ _ _ _ _ _ = hb
  generalize hX : k0_pay18 (F := Ideal) _ _ _ = X
  refine (congrFun (finished_same X _ W2 x10 x12) _).trans ?_
  refine closes x0 x1 x2 x3 x4 x5 x6 x7 x8 x9 x10 x11 x12 _ _ W0 W1 W2 W2 (fun _ _ => rfl) ?_ ?_ X hb _ hX hhb r ?_ n
  · intro k n
    refine congrArg W0 (funext fun a => Fin.ext ?_)
    fin_cases a
    · show 0 + 1 * k.val = k.val
      omega
    · show 0 + 1 * n.val = n.val
      omega
  · intro k n
    refine congrArg W0 (funext fun a => Fin.ext ?_)
    fin_cases a
    · show 512 + 1 * k.val = 512 + k.val
      omega
    · show 0 + 1 * n.val = n.val
      omega
  intro j
  clear hX hhb
  have hi : (Rect.unit (s := S512x2816) ![0, 0] ![512, 2816] inb_S512x2816_S512x2816_0_0).toLoadRect.idx (ix2 r j : S512x2816.Idx) = (ix2 r j : S512x2816.Idx) :=
    funext fun a => Fin.ext (by
      fin_cases a
      · show 0 + 1 * r.val = r.val
        omega
      · show 0 + 1 * j.val = j.val
        omega)
  refine (congrFun (View.readCov_eq_canon' _ _ _) _).trans ((congrArg (View.canon _) hi).trans ?_)
  generalize hy : (ix2 r j : S512x2816.Idx) = y
  have hp : unit Cert.Proj.tsilu (fun n => hb (ix2 r n)) (fun k j => W1 (ix2 k j)) j = unit Cert.Proj.tsilu (fun n => hb (ix2 (y 0) n)) (fun k j => W1 (ix2 k j)) (y 1) := by
    rw [← hy]
    rfl
  rw [hp]
  clear hp hi hy
  canon_tiles x h
  · exact slab_ld hb W1 2560 5376 rfl _ _ x _ _ h0 (by omega)
  · exact slab_ld hb W1 2304 5120 rfl _ _ x _ _ h0 (by omega)
  · exact slab_ld hb W1 2048 4864 rfl _ _ x _ _ h0 (by omega)
  · exact slab_ld hb W1 1792 4608 rfl _ _ x _ _ h0 (by omega)
  · exact slab_ld hb W1 1536 4352 rfl _ _ x _ _ h0 (by omega)
  · exact slab_ld hb W1 1280 4096 rfl _ _ x _ _ h0 (by omega)
  · exact slab_ld hb W1 1024 3840 rfl _ _ x _ _ h0 (by omega)
  · exact slab_ld hb W1 768 3584 rfl _ _ x _ _ h0 (by omega)
  · exact slab_ld hb W1 512 3328 rfl _ _ x _ _ h0 (by omega)
  · exact slab_ld hb W1 256 3072 rfl _ _ x _ _ h0 (by omega)
  · exact slab_ld hb W1 0 2816 rfl _ _ x _ _ h0 (by omega)

end Cert.Mix
-- ==== Proof.MixC.lean ====
module

public import proofs.«01_k».proof.Proof.MixBlock
public import proofs.«01_k».proof.Proof.Gen.Kernel3Ideal.Value
public import Idealize.ShloMosaic.Lib.Pipeline.ValueKit
public import Idealize.ShloMosaic.Lib.Pipeline.ReadBack
public import Idealize.ShloMosaic.Lib.Pointwise
import Idealize.ShloMosaic.Lib.Claim

@[expose] public section

set_option maxRecDepth 16384

noncomputable section

namespace Cert.Mix

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The upper half of the first scratch is covered by its first two tiles. -/
theorem half_cover (u v : Vec Ideal S256x1024 .bf16) (y : S1024x1024.Idx) (h : (y 0).val < 512) :
    ∃ p ∈ ([⟨Rect.unit ![256, 0] ![256, 1024] inb_S1024x1024_S256x1024_256_0, u⟩, ⟨Rect.unit ![0, 0] ![256, 1024] inb_S1024x1024_S256x1024_0_0, v⟩] : List (View.Piece (Elt Ideal) S1024x1024 .bf16)), y ∈ p.1.set := by
  have h1 : (y 1).val < 1024 := (y 1).isLt
  by_cases h0 : (y 0).val < 256
  · refine ⟨_, List.mem_cons_of_mem _ (List.mem_cons_self ..), (Rect.mem_set_unit (inb := inb_S1024x1024_S256x1024_0_0)).mpr fun a => ?_⟩
    fin_cases a
    · show 0 ≤ (y 0).val ∧ (y 0).val < 0 + 256
      omega
    · show 0 ≤ (y 1).val ∧ (y 1).val < 0 + 1024
      omega
  · refine ⟨_, List.mem_cons_self .., (Rect.mem_set_unit (inb := inb_S1024x1024_S256x1024_256_0)).mpr fun a => ?_⟩
    fin_cases a
    · show 256 ≤ (y 0).val ∧ (y 0).val < 256 + 256
      omega
    · show 0 ≤ (y 1).val ∧ (y 1).val < 0 + 1024
      omega

set_option maxHeartbeats 2000000 in
/-- At the first grid point the output block is the block's row of the blocks and of the three matrices. -/
theorem stepA (c : Dev nD) (t : Fin cfg0.N) (h0 : t.val % 32 = 0) (h1 : ¬ 1 ≤ t.val) (r : Fin 512) (n : Fin 1024) :
    (outsAt0 (F := Ideal) m c t.val t.isLt).1 (ix3 0 r n) =
      blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
        (fun i => V m c main_arg5 (ix3 0 (i 0) (i 1))) (fun i => V m c main_arg14 (ix3 0 (i 0) (i 1))) (fun i => V m c main_arg15 (ix3 0 (i 0) (i 1))) r n := by
  rw [outsAt0_A m c t h0 h1]
  frame_out
  simp (disch := decide) only [↓ View.readCov_skip, ↓ View.readCov_cons_toLoadRect, ↓ View.readCov_fill]
  generalize (iblk m c 0 t) = x0
  generalize (iblk m c 1 t) = x1
  generalize (iblk m c 2 t) = x2
  generalize (iblk m c 3 t) = x3
  generalize (iblk m c 4 t) = x4
  generalize (iblk m c 5 t) = x5
  generalize (iblk m c 6 t) = x6
  generalize (iblk m c 7 t) = x7
  generalize (iblk m c 8 t) = x8
  generalize (iblk m c 9 t) = x9
  generalize (iblk m c 10 t) = x10
  generalize (iblk m c 11 t) = x11
  generalize (iblk m c 12 t) = x12
  generalize V m c main_arg5 = W0
  generalize V m c main_arg14 = W1
  generalize V m c main_arg15 = W2
  clear h0 h1
  generalize hhb : k0_pay19 (F := Ideal) _ _ _ _ _ _ = hb
  generalize hX : k0_pay18 (F := Ideal) _ _ _ = X
  refine closes x0 x1 x2 x3 x4 x5 x6 x7 x8 x9 x10 x11 x12 _ _ _ _ _ _ ?_ ?_ ?_ X hb _ hX hhb r ?_ n
  · intro j n
    clear hX hhb
    have hi : (Rect.unit (s := S2816x1024) ![0, 0] ![2816, 1024] inb_S2816x1024_S2816x1024_0_0).toLoadRect.idx (ix2 j n : S2816x1024.Idx) = (ix2 j n : S2816x1024.Idx) :=
      funext fun a => Fin.ext (by
        fin_cases a
        · show 0 + 1 * j.val = j.val
          omega
        · show 0 + 1 * n.val = n.val
          omega)
    refine (congrFun (View.readCov_eq_canon' _ _ _) _).trans ((congrArg (View.canon _) hi).trans ?_)
    generalize (ix2 j n : S2816x1024.Idx) = y
    clear hi
    canon_tiles y h
    all_goals exact tile15 W2 _ _ y _ _ (by omega) (by omega)
  · intro k n
    clear hX hhb
    have hi : (Rect.unit (s := S1024x1024) ![0, 0] ![512, 1024] inb_S1024x1024_S512x1024_0_0).toLoadRect.idx (ix2 k n : S512x1024.Idx) = (ix2 (lo k) n : S1024x1024.Idx) :=
      funext fun a => Fin.ext (by
        fin_cases a
        · show 0 + 1 * k.val = k.val
          omega
        · show 0 + 1 * n.val = n.val
          omega)
    refine (congrFun (View.readCov_eq_canon' _ _ _) _).trans ((congrArg (View.canon _) hi).trans ?_)
    generalize hy : (ix2 (lo k) n : S1024x1024.Idx) = y
    have hk : (y 0).val < 512 := by
      rw [← hy]
      exact k.isLt
    clear hi hy
    canon_tiles y h using half_cover _ _ y hk
    all_goals exact tile5 W0 _ _ y _ _ (by omega) (by omega)
  · intro k n
    clear hX hhb
    have hi : (Rect.unit (s := S1024x1024) ![512, 0] ![512, 1024] inb_S1024x1024_S512x1024_512_0).toLoadRect.idx (ix2 k n : S512x1024.Idx) = (ix2 (hi k) n : S1024x1024.Idx) :=
      funext fun a => Fin.ext (by
        fin_cases a
        · show 512 + 1 * k.val = 512 + k.val
          omega
        · show 0 + 1 * n.val = n.val
          omega)
    refine (congrFun (View.readCov_eq_canon' _ _ _) _).trans ((congrArg (View.canon _) hi).trans ?_)
    generalize (ix2 (Cert.Mix.hi k) n : S1024x1024.Idx) = y
    clear hi
    canon_tiles y h
    all_goals exact tile5 W0 _ _ y _ _ (by omega) (by omega)
  intro j
  clear hX hhb
  have hi : (Rect.unit (s := S512x2816) ![0, 0] ![512, 2816] inb_S512x2816_S512x2816_0_0).toLoadRect.idx (ix2 r j : S512x2816.Idx) = (ix2 r j : S512x2816.Idx) :=
    funext fun a => Fin.ext (by
      fin_cases a
      · show 0 + 1 * r.val = r.val
        omega
      · show 0 + 1 * j.val = j.val
        omega)
  refine (congrFun (View.readCov_eq_canon' _ _ _) _).trans ((congrArg (View.canon _) hi).trans ?_)
  generalize hy : (ix2 r j : S512x2816.Idx) = y
  have hp : unit Cert.Proj.tsilu (fun n => hb (ix2 r n)) (fun k j => W1 (ix3 0 k j)) j = unit Cert.Proj.tsilu (fun n => hb (ix2 (y 0) n)) (fun k j => W1 (ix3 0 k j)) (y 1) := by
    rw [← hy]
    rfl
  refine Eq.trans ?_ hp.symm
  clear hp hi hy
  canon_tiles y h
  · exact slab_slice hb W1 2560 5376 rfl _ _ y _ _ h0 (by omega)
  · exact slab_slice hb W1 2304 5120 rfl _ _ y _ _ h0 (by omega)
  · exact slab_slice hb W1 2048 4864 rfl _ _ y _ _ h0 (by omega)
  · exact slab_slice hb W1 1792 4608 rfl _ _ y _ _ h0 (by omega)
  · exact slab_slice hb W1 1536 4352 rfl _ _ y _ _ h0 (by omega)
  · exact slab_slice hb W1 1280 4096 rfl _ _ y _ _ h0 (by omega)
  · exact slab_slice hb W1 1024 3840 rfl _ _ y _ _ h0 (by omega)
  · exact slab_slice hb W1 768 3584 rfl _ _ y _ _ h0 (by omega)
  · exact slab_slice hb W1 512 3328 rfl _ _ y _ _ h0 (by omega)
  · exact slab_slice hb W1 256 3072 rfl _ _ y _ _ h0 (by omega)
  · exact slab_slice hb W1 0 2816 rfl _ _ y _ _ h0 (by omega)

end Cert.Mix
-- ==== Proof.MixArray.lean ====
/- THE OUTPUT PROJECTION'S AND THE FEED-FORWARD PART'S ARRAY: after the region the result array, index by index, in terms of the arguments. -/
module

public import proofs.«01_k».proof.Proof.MixA
public import proofs.«01_k».proof.Proof.MixB
public import proofs.«01_k».proof.Proof.MixC

@[expose] public section

set_option maxRecDepth 16384

noncomputable section

namespace Cert.Mix

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The windows' block indices. -/
theorem idx : ∀ t : Fin cfg0.N,
    win0_0.index t = ![t.val / 16, t.val % 16, 0] ∧ win0_1.index t = ![t.val / 16, t.val % 16, 0] ∧ win0_2.index t = ![t.val / 16, t.val % 16, 0]
      ∧ win0_3.index t = ![t.val / 16, t.val % 16, 0] ∧ win0_4.index t = ![0, 0] ∧ win0_5.index t = ![t.val / 16, t.val % 16, 0]
      ∧ win0_6.index t = ![t.val / 16, 0, 0] ∧ win0_7.index t = ![0, 0] ∧ win0_8.index t = ![t.val / 16, 0, 0]
      ∧ win0_9.index t = ![t.val / 16, 0, 0] ∧ win0_10.index t = ![t.val / 16, 0, 0] ∧ win0_11.index t = ![0, 0]
      ∧ win0_12.index t = ![0, 0] ∧ win0_13.index t = ![t.val / 16, t.val % 16, 0] :=
  (by decide +kernel : ∀ t : Fin grid0.N, _)

/-- The batch element of a point. -/
def pb (t : Fin cfg0.N) : Fin 2 := ⟨t.val / 16, by have := lt_of_lt_of_eq t.isLt N_0; omega⟩
/-- Row `r` of a point's block, as a token. -/
def pt (t : Fin cfg0.N) (r : Fin 512) : Fin 8192 := ⟨t.val % 16 * 512 + r.val, by omega⟩

theorem b0 (c : Dev nD) (t : Fin cfg0.N) (r k : Fin 512) : iblk m c 0 t (ix3 0 r k) = m ((c : Thread nD τ).loc main_arg0) (ix3 (pb t) (pt t r) k) := by
  blk_point [iblk, V, idx t]
  all_goals rfl
theorem b1 (c : Dev nD) (t : Fin cfg0.N) (r k : Fin 512) : iblk m c 1 t (ix3 0 r k) = m ((c : Thread nD τ).loc main_arg1) (ix3 (pb t) (pt t r) k) := by
  blk_point [iblk, V, idx t]
  all_goals rfl
theorem b2 (c : Dev nD) (t : Fin cfg0.N) (r k : Fin 512) : iblk m c 2 t (ix3 0 r k) = m ((c : Thread nD τ).loc main_arg2) (ix3 (pb t) (pt t r) k) := by
  blk_point [iblk, V, idx t]
  all_goals rfl
theorem b3 (c : Dev nD) (t : Fin cfg0.N) (r k : Fin 512) : iblk m c 3 t (ix3 0 r k) = m ((c : Thread nD τ).loc main_arg3) (ix3 (pb t) (pt t r) k) := by
  blk_point [iblk, V, idx t]
  all_goals rfl
theorem b5 (c : Dev nD) (t : Fin cfg0.N) (r : Fin 512) (n : Fin 1024) : iblk m c 5 t (ix3 0 r n) = m ((c : Thread nD τ).loc main_arg6) (ix3 (pb t) (pt t r) n) := by
  blk_point [iblk, V, idx t]
  all_goals rfl
theorem b6 (c : Dev nD) (t : Fin cfg0.N) (n : Fin 1024) : iblk m c 6 t (ix3 0 0 n) = m ((c : Thread nD τ).loc main_arg7) (ix3 (pb t) 0 n) := by
  blk_point [iblk, V, idx t]
  all_goals rfl
theorem b8 (c : Dev nD) (t : Fin cfg0.N) (n : Fin 1024) : iblk m c 8 t (ix3 0 0 n) = m ((c : Thread nD τ).loc main_arg9) (ix3 (pb t) 0 n) := by
  blk_point [iblk, V, idx t]
  all_goals rfl
theorem b9 (c : Dev nD) (t : Fin cfg0.N) (n : Fin 1024) : iblk m c 9 t (ix3 0 0 n) = m ((c : Thread nD τ).loc main_arg10) (ix3 (pb t) 0 n) := by
  blk_point [iblk, V, idx t]
  all_goals rfl
theorem b10 (c : Dev nD) (t : Fin cfg0.N) (n : Fin 1024) : iblk m c 10 t (ix3 0 0 n) = m ((c : Thread nD τ).loc main_arg11) (ix3 (pb t) 0 n) := by
  blk_point [iblk, V, idx t]
  all_goals rfl

/-- The rows the host reshapes, at region entry. -/
theorem v1 (c : Dev nD) (e : Fin 128) : V m c main_v1 (ix2 0 e) = m ((c : Thread nD τ).loc main_arg4) (ix2 0 e) := by
  unfold V
  after_results
  pointwise []
theorem v3 (c : Dev nD) (n : Fin 1024) : V m c main_v3 (ix2 0 n) = m ((c : Thread nD τ).loc main_arg8) (ix2 0 n) := by
  unfold V
  after_results
  pointwise []
theorem v5 (c : Dev nD) (n : Fin 1024) : V m c main_v5 (ix2 0 n) = m ((c : Thread nD τ).loc main_arg12) (ix2 0 n) := by
  unfold V
  after_results
  pointwise []
theorem v7 (c : Dev nD) (n : Fin 1024) : V m c main_v7 (ix2 0 n) = m ((c : Thread nD τ).loc main_arg13) (ix2 0 n) := by
  unfold V
  after_results
  pointwise []
theorem b4 (c : Dev nD) (t : Fin cfg0.N) (e : Fin 128) : iblk m c 4 t (ix2 0 e) = V m c main_v1 (ix2 0 e) := by
  blk_point [iblk, idx t]
theorem b7 (c : Dev nD) (t : Fin cfg0.N) (n : Fin 1024) : iblk m c 7 t (ix2 0 n) = V m c main_v3 (ix2 0 n) := by
  blk_point [iblk, idx t]
theorem b11 (c : Dev nD) (t : Fin cfg0.N) (n : Fin 1024) : iblk m c 11 t (ix2 0 n) = V m c main_v5 (ix2 0 n) := by
  blk_point [iblk, idx t]
theorem b12 (c : Dev nD) (t : Fin cfg0.N) (n : Fin 1024) : iblk m c 12 t (ix2 0 n) = V m c main_v7 (ix2 0 n) := by
  blk_point [iblk, idx t]

/-- The weights at region entry are the arguments. -/
theorem w5 (c : Dev nD) : V m c main_arg5 = m ((c : Thread nD τ).loc main_arg5) := by
  unfold V
  after_results
theorem w14 (c : Dev nD) : V m c main_arg14 = m ((c : Thread nD τ).loc main_arg14) := by
  unfold V
  after_results
theorem w15 (c : Dev nD) : V m c main_arg15 = m ((c : Thread nD τ).loc main_arg15) := by
  unfold V
  after_results

/-- The feed-forward part of sixteen arrays, with the given silu. -/
def part (silu : EReal → EReal) (X0 : Vec Ideal S2x8192x512 .bf16) (X1 X2 : Vec Ideal S2x8192x512 .f32) (X3 : Vec Ideal S2x8192x512 .bf16) (X4 : Vec Ideal S1x128 .f32)
    (X5 : Vec Ideal S1x1024x1024 .f32) (X6 : Vec Ideal S2x8192x1024 .f32) (X7 : Vec Ideal S2x1x1024 .f32) (X8 : Vec Ideal S1x1024 .f32) (X9 X10 X11 : Vec Ideal S2x1x1024 .f32)
    (X12 X13 : Vec Ideal S1x1024 .f32) (X14 : Vec Ideal S1x1024x5632 .f32) (X15 : Vec Ideal S1x2816x1024 .f32) (b : Fin 2) (T : Fin 8192) : Fin 1024 → EReal :=
  ffn silu (mid (fun k => X0 (ix3 b T k)) (fun k => X1 (ix3 b T k) + X2 (ix3 b T k)) (fun k => X3 (ix3 b T k)) (fun e => X4 (ix2 0 e)) (fun k n => X5 (ix3 0 k n))
      (fun n => X6 (ix3 b T n)) (fun n => X7 (ix3 b 0 n)) (fun n => X8 (ix2 0 n)))
    (fun n => X9 (ix3 b 0 n)) (fun n => X10 (ix3 b 0 n)) (fun n => X11 (ix3 b 0 n)) (fun n => X12 (ix2 0 n)) (fun n => X13 (ix2 0 n)) (fun k j => X14 (ix3 0 k j)) (fun j n => X15 (ix3 0 j n))

/-- And of the arguments. -/
def result (silu : EReal → EReal) (c : Dev nD) (b : Fin 2) (T : Fin 8192) : Fin 1024 → EReal :=
  part silu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) b T

/-- Every point leaves the block's row of the blocks and of the three matrices. -/
theorem step (c : Dev nD) (t : Fin cfg0.N) (r : Fin 512) (n : Fin 1024) :
    (outsAt0 (F := Ideal) m c t.val t.isLt).1 (ix3 0 r n) =
      blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
        (fun i => V m c main_arg5 (ix3 0 (i 0) (i 1))) (fun i => V m c main_arg14 (ix3 0 (i 0) (i 1))) (fun i => V m c main_arg15 (ix3 0 (i 0) (i 1))) r n := by
  have hN := lt_of_lt_of_eq t.isLt (show cfg0.N = 32 from N_0)
  by_cases h0 : t.val % 32 = 0
  · exact stepA m c t h0 (by omega) r n
  · exact stepB m c t h0 (by omega) _ _ _ (fun h => held m c _ h) r n

/-- Which is the feed-forward part of the arguments at the point's tokens. -/
theorem out13 (c : Dev nD) (t : Fin cfg0.N) (r : Fin 512) (n : Fin 1024) :
    (outsAt0 (F := Ideal) m c t.val t.isLt).1 (ix3 0 r n) = result m Cert.Proj.tsilu c (pb t) (pt t r) n := by
  refine (step m c t r n).trans ?_
  unfold blockRow result part
  simp only [b0 m c t, b1 m c t, b2 m c t, b3 m c t, b4 m c t, b5 m c t, b6 m c t, b7 m c t, b8 m c t, b9 m c t, b10 m c t, b11 m c t, b12 m c t, v1 m c, v3 m c, v5 m c, v7 m c, w5 m c, w14 m c, w15 m c]
  rfl

/-- The result array. -/
theorem final13 (c : Dev nD) : (dats m 0 c).arrAt 13 cfg0.N = fun y => result m Cert.Proj.tsilu c (y 0) (y 1) (y 2) := by
  refine (dats m 0 c).arrAt_eq_of_covers 13 _ (by decide +kernel) fun t hf y => ?_
  blk_simp
  rw [after0_13]
  have h0 : (y 0).val < 1 := (y 0).isLt
  have e : (y : S1x512x1024.Idx) = ix3 0 (y 1) (y 2) := by
    refine (ix3_eta (n0 := 1) (n1 := 512) (n2 := 1024) y).symm.trans ?_
    exact congrArg (fun a => ix3 a (y 1) (y 2)) (Fin.ext (by simp))
  refine (congrArg (outsAt0 (F := Ideal) m c t.val t.isLt).1 e).trans ((out13 m c t (y 1) (y 2)).trans ?_)
  have e0 : (win0_13.blk t).view.emb y 0 = pb t := by apply Fin.ext; blk_simp [idx t]; simp only [pb]
  have e1 : (win0_13.blk t).view.emb y 1 = pt t (y 1) := by apply Fin.ext; blk_simp [idx t]; simp only [pt]
  have e2 : (win0_13.blk t).view.emb y 2 = y 2 := by apply Fin.ext; blk_simp [idx t]
  rw [e0, e1, e2]

end Cert.Mix
-- ==== Proof.MixRef.lean ====
/- THE REFERENCE'S OUTPUT PROJECTION AND FEED-FORWARD PART, token by token. -/
module

public import proofs.«01_k».proof.Proof.MixRow
public import proofs.«01_k».proof.Proof.Gen.Reference3Ideal.Read

@[expose] public section

set_option maxRecDepth 16384

noncomputable section

namespace Cert.MixRef

open Cert.Reference3Ideal Cert.Reference3Ideal.Read
open Idealize.ShloMosaic Idealize.ShloMosaic.TcCoe Idealize.SL.Sem
open Cert.Mix

variable (X0 : Vec Ideal S2x8192x512 .bf16) (X1 X2 : Vec Ideal S2x8192x512 .f32) (X3 : Vec Ideal S2x8192x512 .bf16)
  (X4 : Vec Ideal S1x128 .f32) (X5 : Vec Ideal S1x1024x1024 .f32) (X6 : Vec Ideal S2x8192x1024 .f32) (X7 : Vec Ideal S2x1x1024 .f32)
  (X8 : Vec Ideal S1x1024 .f32) (X9 X10 X11 : Vec Ideal S2x1x1024 .f32) (X12 X13 : Vec Ideal S1x1024 .f32)
  (X14 : Vec Ideal S1x1024x5632 .f32) (X15 : Vec Ideal S1x2816x1024 .f32)

/-- The heads, normalised and weighted. -/
theorem v15 (b : Fin 2) (T : Fin 8192) (h : Fin 4) (e : Fin 128) : val_main_v15 (F := Ideal) X1 X2 X4 (ix4 b T h e) =
    rnorm l128 (fun x => X1 (ix3 b T (chan h x)) + X2 (ix3 b T (chan h x))) e * X4 (ix2 0 e) := by
  have hs : ∀ e, val_main_v1 (F := Ideal) X1 X2 (ix4 b T h e) = X1 (ix3 b T (chan h e)) + X2 (ix3 b T (chan h e)) := by
    intro e
    pointwise [val_main_v1, val_main_v0]
    rfl
  unfold val_main_v15 val_main_v12 val_main_v11 val_main_v10 val_main_v9 val_main_v7 val_main_v5 val_main_v4 val_main_v3
  generalize val_main_v1 (F := Ideal) X1 X2 = O at hs ⊢
  pointwise [val_main_v14, val_main_v13, val_main_v8, val_main_v6, val_main_v2, val_main_cst, val_main_cst_0, val_main_cst_1]
  simp only [hs]
  rfl

/-- The recurrence's output, gated. -/
theorem v18 (b : Fin 2) (T : Fin 8192) (k : Fin 512) : val_main_v18 (F := Ideal) X1 X2 X3 X4 (ix3 b T k) =
    gated (fun k => X1 (ix3 b T k) + X2 (ix3 b T k)) (fun k => X3 (ix3 b T k)) (fun e => X4 (ix2 0 e)) k := by
  have h := v15 X1 X2 X4 b T (hd k) (pl k)
  unfold val_main_v18 val_main_v16
  generalize val_main_v15 (F := Ideal) X1 X2 X4 = H at h ⊢
  pointwise [val_main_v17]
  exact congrArg (fun x => x * X3 (ix3 b T k)) h

/-- The output projection. -/
theorem v22 (b : Fin 2) (T : Fin 8192) (n : Fin 1024) : val_main_v22 (F := Ideal) X0 X1 X2 X3 X4 X5 (ix3 b T n) =
    mixed (fun k => X0 (ix3 b T k)) (gated (fun k => X1 (ix3 b T k) + X2 (ix3 b T k)) (fun k => X3 (ix3 b T k)) (fun e => X4 (ix2 0 e))) (fun k n => X5 (ix3 0 k n)) n := by
  have h := v18 X1 X2 X3 X4 b T
  unfold val_main_v22 val_main_v20
  generalize val_main_v18 (F := Ideal) X1 X2 X3 X4 = H at h ⊢
  pointwise [val_main_v19, val_main_v21]
  simp only [h]
  rfl

/-- The residual stream after it. -/
def mid3 (b : Fin 2) (T : Fin 8192) : Fin 1024 → EReal :=
  mid (fun k => X0 (ix3 b T k)) (fun k => X1 (ix3 b T k) + X2 (ix3 b T k)) (fun k => X3 (ix3 b T k)) (fun e => X4 (ix2 0 e)) (fun k n => X5 (ix3 0 k n))
    (fun n => X6 (ix3 b T n)) (fun n => X7 (ix3 b 0 n)) (fun n => X8 (ix2 0 n))

theorem v39 (b : Fin 2) (T : Fin 8192) (n : Fin 1024) : val_main_v39 (F := Ideal) X0 X1 X2 X3 X4 X5 X6 X7 X8 (ix3 b T n) =
    mid3 X0 X1 X2 X3 X4 X5 X6 X7 X8 b T n := by
  have h := v22 X0 X1 X2 X3 X4 X5 b T
  unfold val_main_v39 val_main_v38 val_main_v36 val_main_v33 val_main_v32 val_main_v31 val_main_v30 val_main_v28 val_main_v26 val_main_v25 val_main_v24
  generalize val_main_v22 (F := Ideal) X0 X1 X2 X3 X4 X5 = H at h ⊢
  pointwise [val_main_v37, val_main_v35, val_main_v34, val_main_v29, val_main_v27, val_main_v23, val_main_cst_2, val_main_cst_3, val_main_cst_4]
  simp only [h]
  rfl

/-- The hidden state of the feed-forward part. -/
theorem v59 (b : Fin 2) (T : Fin 8192) (n : Fin 1024) : val_main_v59 (F := Ideal) X0 X1 X2 X3 X4 X5 X6 X7 X8 X9 X10 X12 (ix3 b T n) =
    modulated (mid3 X0 X1 X2 X3 X4 X5 X6 X7 X8 b T) (fun n => X12 (ix2 0 n)) (fun n => X9 (ix3 b 0 n)) (fun n => X10 (ix3 b 0 n)) n := by
  have h := v39 X0 X1 X2 X3 X4 X5 X6 X7 X8 b T
  unfold val_main_v59 val_main_v57 val_main_v53 val_main_v50 val_main_v49 val_main_v48 val_main_v47 val_main_v45 val_main_v43 val_main_v42 val_main_v41
  generalize val_main_v39 (F := Ideal) X0 X1 X2 X3 X4 X5 X6 X7 X8 = H at h ⊢
  pointwise [val_main_v58, val_main_v56, val_main_v55, val_main_v54, val_main_v52, val_main_v51, val_main_v46, val_main_v44, val_main_v40, val_main_cst_5, val_main_cst_6, val_main_cst_7, val_main_cst_8]
  simp only [h]
  rfl

/-- The gated unit. -/
theorem v65 (b : Fin 2) (T : Fin 8192) (j : Fin 2816) : val_main_v65 (F := Ideal) X0 X1 X2 X3 X4 X5 X6 X7 X8 X9 X10 X12 X14 (ix3 b T j) =
    unit Cert.ProjRef.rsilu (modulated (mid3 X0 X1 X2 X3 X4 X5 X6 X7 X8 b T) (fun n => X12 (ix2 0 n)) (fun n => X9 (ix3 b 0 n)) (fun n => X10 (ix3 b 0 n))) (fun k j => X14 (ix3 0 k j)) j := by
  have h := v59 X0 X1 X2 X3 X4 X5 X6 X7 X8 X9 X10 X12 b T
  have h1 : ∀ p, val_main_v61 (F := Ideal) X0 X1 X2 X3 X4 X5 X6 X7 X8 X9 X10 X12 X14 (ix3 b T p) = times (modulated (mid3 X0 X1 X2 X3 X4 X5 X6 X7 X8 b T) (fun n => X12 (ix2 0 n)) (fun n => X9 (ix3 b 0 n)) (fun n => X10 (ix3 b 0 n))) (fun k j => X14 (ix3 0 k j)) p := by
    intro p
    unfold val_main_v61
    generalize val_main_v59 (F := Ideal) X0 X1 X2 X3 X4 X5 X6 X7 X8 X9 X10 X12 = H at h ⊢
    pointwise [val_main_v60]
    simp only [h]
    rfl
  clear h
  unfold val_main_v65 val_main_v64 val_main_call0_v5 val_main_call0_v3 val_main_call0_v1 val_main_call0_v0 val_main_v63 val_main_v62
  generalize val_main_v61 (F := Ideal) X0 X1 X2 X3 X4 X5 X6 X7 X8 X9 X10 X12 X14 = H at h1 ⊢
  pointwise [val_main_call0_v4, val_main_call0_v2, val_main_call0_cst, val_main_call0_cst_0]
  simp only [h1]
  rfl

/-- The whole row. -/
theorem v84 (b : Fin 2) (T : Fin 8192) (n : Fin 1024) : val_main_v84 (F := Ideal) X0 X1 X2 X3 X4 X5 X6 X7 X8 X9 X10 X11 X12 X13 X14 X15 (ix3 b T n) =
    ffn Cert.ProjRef.rsilu (mid3 X0 X1 X2 X3 X4 X5 X6 X7 X8 b T) (fun n => X9 (ix3 b 0 n)) (fun n => X10 (ix3 b 0 n)) (fun n => X11 (ix3 b 0 n)) (fun n => X12 (ix2 0 n)) (fun n => X13 (ix2 0 n)) (fun k j => X14 (ix3 0 k j)) (fun j n => X15 (ix3 0 j n)) n := by
  have h := v65 X0 X1 X2 X3 X4 X5 X6 X7 X8 X9 X10 X12 X14 b T
  have h1 : ∀ p, val_main_v67 (F := Ideal) X0 X1 X2 X3 X4 X5 X6 X7 X8 X9 X10 X12 X14 X15 (ix3 b T p) = times (unit Cert.ProjRef.rsilu (modulated (mid3 X0 X1 X2 X3 X4 X5 X6 X7 X8 b T) (fun n => X12 (ix2 0 n)) (fun n => X9 (ix3 b 0 n)) (fun n => X10 (ix3 b 0 n))) (fun k j => X14 (ix3 0 k j))) (fun j n => X15 (ix3 0 j n)) p := by
    intro p
    unfold val_main_v67
    generalize val_main_v65 (F := Ideal) X0 X1 X2 X3 X4 X5 X6 X7 X8 X9 X10 X12 X14 = H at h ⊢
    pointwise [val_main_v66]
    simp only [h]
    rfl
  clear h
  have h := v39 X0 X1 X2 X3 X4 X5 X6 X7 X8 b T
  unfold val_main_v84 val_main_v83 val_main_v81 val_main_v78 val_main_v77 val_main_v76 val_main_v75 val_main_v73 val_main_v71 val_main_v70 val_main_v69
  generalize val_main_v67 (F := Ideal) X0 X1 X2 X3 X4 X5 X6 X7 X8 X9 X10 X12 X14 X15 = H at h1 ⊢
  generalize val_main_v39 (F := Ideal) X0 X1 X2 X3 X4 X5 X6 X7 X8 = G at h ⊢
  pointwise [val_main_v82, val_main_v80, val_main_v79, val_main_v74, val_main_v72, val_main_v68, val_main_cst_9, val_main_cst_10, val_main_cst_11]
  simp only [h1, h]
  rfl

end Cert.MixRef
-- ==== Proof.Finite.lean ====
/- WHAT THE PRECONDITION SAYS: the arguments that the logits are made of are finite. -/
module

public import proofs.«01_k».proof.Defs
public import proofs.«01_k».proof.Proof.Gen.Pre_logits_are_finite
public import proofs.«01_k».proof.Proof.Softmax
public import Idealize.ShloMosaic.Lib.Pipeline.ValueKit
public import Idealize.ShloMosaic.Lib.Pointwise
import Idealize.ShloMosaic.Lib.Claim

@[expose] public section

set_option maxRecDepth 16384

noncomputable section

namespace Cert.Na

open Cert.KernelIdeal
open Idealize.ShloMosaic Idealize.ShloMosaic.TcCoe Idealize.SL.Sem

theorem infinity : Ideal.ofBits FTy.f32 0x7F800000#32 = ⊤ := by simp [Ideal.ofBits, Ideal.ieee]

/-- A number whose absolute value is below infinity is finite. -/
theorem finite_of_abs (x u : EReal) (hu : u = ⊤) (h : Ideal.cmp .olt (max x (-x)) u = 1#1) : Finite x := by
  subst hu
  induction x with
  | bot => exact absurd h (by simp [Ideal.cmp])
  | top => exact absurd h (by simp [Ideal.cmp])
  | coe r => exact ⟨r, rfl⟩

variable (m : (ℓ : Loc nD τ sig) → Buf (Elt Ideal) ℓ)

attribute [local instance] Cert.Pre_logits_are_finite.Gen.facts

theorem finite0 (h : Cert.Pre_KernelIdeal_logits_are_finite m) (c : Dev nD) (i : S2x8192x512.Idx) : Finite (m ((c.tc : Thread nD τ).loc main_arg0) i) :=
  finite_of_abs _ _ infinity (congrFun (h c).1 i)
theorem finite1 (h : Cert.Pre_KernelIdeal_logits_are_finite m) (c : Dev nD) (i : S2x64x512x128.Idx) : Finite (m ((c.tc : Thread nD τ).loc main_arg1) i) :=
  finite_of_abs _ _ infinity (congrFun (h c).2.1 i)
theorem finite3 (h : Cert.Pre_KernelIdeal_logits_are_finite m) (c : Dev nD) (i : S2x2x512x128.Idx) : Finite (m ((c.tc : Thread nD τ).loc main_arg3) i) :=
  finite_of_abs _ _ infinity (congrFun (h c).2.2.1 i)
theorem finite5 (h : Cert.Pre_KernelIdeal_logits_are_finite m) (c : Dev nD) (i : S1x8x15x31.Idx) : Finite (m ((c.tc : Thread nD τ).loc main_arg5) i) :=
  finite_of_abs _ _ infinity (congrFun (h c).2.2.2 i)
end Cert.Na
-- ==== Proof.MixJoin.lean ====
/- THE OUTPUT PROJECTION AND THE FEED-FORWARD PART JOINED: the version's array, and that the reference's is the same. -/
module

public import proofs.«01_k».proof.Defs
public import proofs.«01_k».proof.Proof.MixArray
public import proofs.«01_k».proof.Proof.MixRef
public import proofs.«01_k».proof.Proof.Finite
public import proofs.«01_k».proof.Proof.Gen.Pre_feed_forward_is_finite
public import proofs.«01_k».proof.Proof.Gen.Kernel3Ideal.Value
public import proofs.«01_k».proof.Proof.Gen.Reference3Ideal.Run
import Idealize.ShloMosaic.Lib.Claim

@[expose] public section

set_option maxRecDepth 16384

noncomputable section

namespace Cert.Mix

open Cert.Kernel3Ideal Cert.Kernel3Ideal.Gen
open Idealize.ShloMosaic Idealize.ShloMosaic.TcCoe Idealize.SL.Sem
open Cert.Na (Finite finite_of_abs infinity)

variable (m : (ℓ : Loc nD τ sig) → Buf (Elt Ideal) ℓ)

/-- The result array. -/
def a_out (c : Dev nD) : Buf (Elt Ideal) ((c.tc : Thread nD τ).loc main_v8) := fun (y : S2x8192x1024.Idx) => result m Cert.Proj.tsilu c (y 0) (y 1) (y 2)

/-- The version's run: its result, its arguments kept. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v8) = a_out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨(h c).1.trans (final13 m c), (h c).2⟩) (Cert.Kernel3Ideal.Value.run_blocks m ρ)

attribute [local instance] Cert.Pre_feed_forward_is_finite.Gen.facts

/-- Under the precondition the version's silu is silu wherever the feed-forward part applies it. -/
theorem result_eq (h : Cert.Pre_Kernel3Ideal_feed_forward_is_finite m) (c : Dev nD) (b : Fin 2) (T : Fin 8192) :
    result m Cert.Proj.tsilu c b T = result m Cert.ProjRef.rsilu c b T :=
  ffn_eq _ _ _ _ _ _ _ _ (fun n => finite_of_abs _ _ infinity (congrFun (h c).1 (ix3 b 0 n))) (fun n => finite_of_abs _ _ infinity (congrFun (h c).2.1 (ix3 b 0 n)))
    (fun n => finite_of_abs _ _ infinity (congrFun (h c).2.2.1 (ix2 0 n))) (fun k j => finite_of_abs _ _ infinity (congrFun (h c).2.2.2 (ix3 0 k j)))

/-- The reference's array is the version's. -/
theorem r_out (h : Cert.Pre_Kernel3Ideal_feed_forward_is_finite m) (c : Dev nD) :
    Cert.Reference3Ideal.Read.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) = a_out m c := by
  funext y
  have e : (y : S2x8192x1024.Idx) = ix3 (y 0) (y 1) (y 2) := (ix3_eta (n0 := 2) (n1 := 8192) (n2 := 1024) y).symm
  refine (congrArg (Cert.Reference3Ideal.Read.val_main_v84 (F := Ideal) _ _ _ _ _ _ _ _ _ _ _ _ _ _ _ _) e).trans ?_
  refine (Cert.MixRef.v84 _ _ _ _ _ _ _ _ _ _ _ _ _ _ _ _ (y 0) (y 1) (y 2)).trans ?_
  exact (congrFun (result_eq m h c (y 0) (y 1)) (y 2)).symm

end Cert.Mix
-- ==== Proof.ProjJoin.lean ====
/- THE PROJECTIONS JOINED: the version's eight arrays, and that the reference's are the same. -/
module

public import proofs.«01_k».proof.Defs
public import proofs.«01_k».proof.Proof.ProjMath
public import proofs.«01_k».proof.Proof.Finite
public import proofs.«01_k».proof.Proof.Gen.Pre_projection_is_finite
public import proofs.«01_k».proof.Proof.Gen.Kernel2Ideal.Value
public import proofs.«01_k».proof.Proof.Gen.Reference2Ideal.Run
import Idealize.ShloMosaic.Lib.Claim

@[expose] public section

set_option maxRecDepth 16384

noncomputable section

namespace Cert.Proj

open Cert.Kernel2Ideal Cert.Kernel2Ideal.Gen
open Idealize.ShloMosaic Idealize.ShloMosaic.TcCoe Idealize.SL.Sem
open Cert.Na (Finite finite_of_abs infinity)

variable (m : (ℓ : Loc nD τ sig) → Buf (Elt Ideal) ℓ)

/-- The queries, scaled. -/
def a_q (c : Dev nD) : Buf (Elt Ideal) ((c.tc : Thread nD τ).loc main_v5_0) := fun (y : S2x8192x512.Idx) => P m c (y 0) (y 1) (col 0 (y 2)) * Ideal.ofBits FTy.f32 1040187392#32
/-- The keys, transposed in blocks of 128 tokens. -/
def a_kt (c : Dev nD) : Buf (Elt Ideal) ((c.tc : Thread nD τ).loc main_v5_1) := fun (y : S2x64x512x128.Idx) => P m c (y 0) (tok (y 1) (y 3)) (col 1 (y 2))
/-- The values. -/
def a_v (c : Dev nD) : Buf (Elt Ideal) ((c.tc : Thread nD τ).loc main_v5_2) := fun (y : S2x8192x512.Idx) => P m c (y 0) (y 1) (col 2 (y 2))
/-- The recurrence's queries. -/
def a_hq (c : Dev nD) : Buf (Elt Ideal) ((c.tc : Thread nD τ).loc main_v5_3) := fun (y : S2x8192x512.Idx) => tsilu (P m c (y 0) (y 1) (col 3 (y 2)))
/-- The forward forget gates. -/
def a_ff (c : Dev nD) : Buf (Elt Ideal) ((c.tc : Thread nD τ).loc main_v5_4) := fun (y : S2x8192x512.Idx) => logForget (Lo m c 0 (y 2)) (P m c (y 0) (y 1) (col 4 (y 2)))
/-- The backward forget gates. -/
def a_fb (c : Dev nD) : Buf (Elt Ideal) ((c.tc : Thread nD τ).loc main_v5_5) := fun (y : S2x8192x512.Idx) => logForget (Lo m c 1 (y 2)) (P m c (y 0) (y 1) (col 5 (y 2)))
/-- The recurrence's inputs. -/
def a_hi (c : Dev nD) : Buf (Elt Ideal) ((c.tc : Thread nD τ).loc main_v5_6) := fun (y : S2x8192x512.Idx) => P m c (y 0) (y 1) (col 6 (y 2))
/-- The recurrence's gates. -/
def a_hg (c : Dev nD) : Buf (Elt Ideal) ((c.tc : Thread nD τ).loc main_v5_7) := fun (y : S2x8192x512.Idx) => tsilu (P m c (y 0) (y 1) (col 7 (y 2)))

/-- The version's run: its eight results, its arguments kept. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v5_0) = a_q m c
      ∧ r.2.mem ((c.tc : Thread nD τ).loc main_v5_1) = a_kt m c
      ∧ r.2.mem ((c.tc : Thread nD τ).loc main_v5_2) = a_v m c
      ∧ r.2.mem ((c.tc : Thread nD τ).loc main_v5_3) = a_hq m c
      ∧ r.2.mem ((c.tc : Thread nD τ).loc main_v5_4) = a_ff m c
      ∧ r.2.mem ((c.tc : Thread nD τ).loc main_v5_5) = a_fb m c
      ∧ r.2.mem ((c.tc : Thread nD τ).loc main_v5_6) = a_hi m c
      ∧ r.2.mem ((c.tc : Thread nD τ).loc main_v5_7) = a_hg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h4, h5, h6, h7, ha⟩ := h c
    exact ⟨h0.trans (final6 m c), h1.trans (final7 m c), h2.trans (final8 m c), h3.trans (final9 m c), h4.trans (final10 m c), h5.trans (final11 m c), h6.trans (final12 m c), h7.trans (final13 m c), ha⟩)
    (Cert.Kernel2Ideal.Value.run_blocks m ρ)

attribute [local instance] Cert.Pre_projection_is_finite.Gen.facts

/-- The projections are finite under the precondition. -/
theorem finite_P (h : Cert.Pre_Kernel2Ideal_projection_is_finite m) (c : Dev nD) (b : Fin 2) (T : Fin 8192) (n : Fin 4096) : Finite (P m c b T n) :=
  finite_proj _ _ _ _ _ (fun i => finite_of_abs _ _ infinity (congrFun (h c).1 i)) (fun i => finite_of_abs _ _ infinity (congrFun (h c).2.1 i))
    (fun i => finite_of_abs _ _ infinity (congrFun (h c).2.2.1 i)) (fun i => finite_of_abs _ _ infinity (congrFun (h c).2.2.2 i)) b T n

section reference
open Cert.Reference2Ideal.Read
variable (h : Cert.Pre_Kernel2Ideal_projection_is_finite m) (c : Dev nD)
include h

theorem r_q : val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = a_q m c := by
  funext y
  have e : (y : S2x8192x512.Idx) = ix3 (y 0) (y 1) (y 2) := (ix3_eta (n0 := 2) (n1 := 8192) (n2 := 512) y).symm
  refine (congrArg (val_main_v48 (F := Ideal) _ _ _ _ _) e).trans ?_
  refine (Cert.ProjRef.v48 _ _ _ _ _ (y 0) (y 1) (y 2)).trans ?_
  rfl

theorem r_kt : val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = a_kt m c := by
  funext y
  have e : (y : S2x64x512x128.Idx) = ix4 (y 0) (y 1) (y 2) (y 3) := (ix4_eta (n0 := 2) (n1 := 64) (n2 := 512) (n3 := 128) y).symm
  refine (congrArg (val_main_v49 (F := Ideal) _ _ _ _ _) e).trans ?_
  refine (Cert.ProjRef.v49 _ _ _ _ _ (y 0) (y 1) (y 2) (y 3)).trans ?_
  rfl

theorem r_v : val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = a_v m c := by
  funext y
  have e : (y : S2x8192x512.Idx) = ix3 (y 0) (y 1) (y 2) := (ix3_eta (n0 := 2) (n1 := 8192) (n2 := 512) y).symm
  refine (congrArg (val_main_v50 (F := Ideal) _ _ _ _ _) e).trans ?_
  refine (Cert.ProjRef.v50 _ _ _ _ _ (y 0) (y 1) (y 2)).trans ?_
  rfl

theorem r_hq : val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = a_hq m c := by
  funext y
  have e : (y : S2x8192x512.Idx) = ix3 (y 0) (y 1) (y 2) := (ix3_eta (n0 := 2) (n1 := 8192) (n2 := 512) y).symm
  refine (congrArg (val_main_v52 (F := Ideal) _ _ _ _ _) e).trans ?_
  refine (Cert.ProjRef.v52 _ _ _ _ _ (y 0) (y 1) (y 2)).trans ?_
  exact (tsilu_eq _ (finite_P m h c _ _ _)).symm

theorem r_ff : val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = a_ff m c := by
  funext y
  have e : (y : S2x8192x512.Idx) = ix3 (y 0) (y 1) (y 2) := (ix3_eta (n0 := 2) (n1 := 8192) (n2 := 512) y).symm
  refine (congrArg (val_main_v69 (F := Ideal) _ _ _ _ _ _) e).trans ?_
  refine (Cert.ProjRef.v69 _ _ _ _ _ _ (y 0) (y 1) (y 2)).trans ?_
  exact (logForget_eq _ _ (finite_P m h c _ _ _)).symm

theorem r_fb : val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = a_fb m c := by
  funext y
  have e : (y : S2x8192x512.Idx) = ix3 (y 0) (y 1) (y 2) := (ix3_eta (n0 := 2) (n1 := 8192) (n2 := 512) y).symm
  refine (congrArg (val_main_v86 (F := Ideal) _ _ _ _ _ _) e).trans ?_
  refine (Cert.ProjRef.v86 _ _ _ _ _ _ (y 0) (y 1) (y 2)).trans ?_
  exact (logForget_eq _ _ (finite_P m h c _ _ _)).symm

theorem r_hi : val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = a_hi m c := by
  funext y
  have e : (y : S2x8192x512.Idx) = ix3 (y 0) (y 1) (y 2) := (ix3_eta (n0 := 2) (n1 := 8192) (n2 := 512) y).symm
  refine (congrArg (val_main_v87 (F := Ideal) _ _ _ _ _) e).trans ?_
  refine (Cert.ProjRef.v87 _ _ _ _ _ (y 0) (y 1) (y 2)).trans ?_
  rfl

theorem r_hg : val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = a_hg m c := by
  funext y
  have e : (y : S2x8192x512.Idx) = ix3 (y 0) (y 1) (y 2) := (ix3_eta (n0 := 2) (n1 := 8192) (n2 := 512) y).symm
  refine (congrArg (val_main_v89 (F := Ideal) _ _ _ _ _) e).trans ?_
  refine (Cert.ProjRef.v89 _ _ _ _ _ (y 0) (y 1) (y 2)).trans ?_
  exact (tsilu_eq _ (finite_P m h c _ _ _)).symm
end reference

end Cert.Proj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_logits_are_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_projection_is_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_feed_forward_is_finite
public import proofs.«01_k».proof.Proof.Run
public import proofs.«01_k».proof.Proof.MixJoin
public import proofs.«01_k».proof.Proof.Finite
public import proofs.«01_k».proof.Proof.ProjJoin
public import Idealize.ShloMosaic.Adequacy
public import Idealize.ShloMosaic.Init

@[expose] public section

noncomputable section

namespace Cert.Proof

open Idealize.ShloMosaic Idealize.ShloMosaic.TcCoe Idealize.SL.Sem

open Cert.KernelIdeal in
/-- The reference's result is the kernel's, of equal arguments with finite logits. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (f0 : ∀ i, Cert.Na.Finite (m ((c.tc : Thread nD τ).loc main_arg0) i)) (f1 : ∀ i, Cert.Na.Finite (m ((c.tc : Thread nD τ).loc main_arg1) i))
    (f3 : ∀ i, Cert.Na.Finite (m ((c.tc : Thread nD τ).loc main_arg3) i)) (f5 : ∀ i, Cert.Na.Finite (m ((c.tc : Thread nD τ).loc main_arg5) i))
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    Cert.ReferenceIdeal.Value.res_main_v90 m' c = Cert.Na.attention m c := by
  obtain ⟨h0, h1, h2, h3, h4, h5⟩ := h
  rw [Cert.ReferenceIdeal.Read.val_main_v90_eq, h0, h1, h2, h3, h4, h5]
  funext y
  have e : (y : S2x8192x512.Idx) = ix3 (y 0) (y 1) (y 2) := (ix3_eta (n0 := 2) (n1 := 8192) (n2 := 512) y).symm
  refine (congrArg (Cert.ReferenceIdeal.Read.val_main_v90 (F := Ideal) _ _ _ _ _ _) e).trans ?_
  refine (Cert.NaRef.result_at _ _ _ _ _ _ f0 f1 f3 f5 (y 0) (y 1) (y 2)).trans ?_
  exact (Cert.Na.windowAt_eq _ _ _ _ _ _ _ rfl (y 0) (y 1) (y 2)).symm

/-- The reference runs, leaves its arguments, and ends with every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The second reference runs, leaves its arguments, and ends with every counter at zero. -/
theorem frame_reference2 : Cert.quiescent_Reference2Ideal (hReference2Ideal := Cert.Reference2Ideal.Gen.facts) := fun m ρ _ =>
  (θ_run Cert.Reference2Ideal.defs _ _).mono (fun r h => ⟨fun c => (h c).2.2.2.2.2.2.2.2, sem_eq_zero_of_no_sems (by decide) r.2⟩)
    (Cert.Reference2Ideal.Value.run (F := Ideal) m ρ)

open Cert.Proj in
/-- The eight arrays of the projections: the version's and the reference's are the same. -/
theorem projections : Cert.algebraic_Kernel2Ideal_Reference2Ideal_pre_projection_is_finite (hKernel2Ideal := Cert.Kernel2Ideal.Gen.facts)
    (hReference2Ideal := Cert.Reference2Ideal.Gen.facts) (hPre_projection_is_finite := Cert.Pre_projection_is_finite.Gen.facts) :=
  fun m ρ m' ρ' hpre hargs => ⟨fun c => a_q m c, fun c => a_kt m c, fun c => a_v m c, fun c => a_hq m c, fun c => a_ff m c, fun c => a_fb m c, fun c => a_hi m c, fun c => a_hg m c, Cert.Proj.run m ρ,
    (θ_run _ _ _).mono (fun _ h c => by
      obtain ⟨g0, g1, g2, g3, g4, g5, g6, g7, k⟩ := h c
      obtain ⟨h0, h1, h2, h3, h4, h5⟩ := hargs c
      refine ⟨g0.trans ((Cert.Reference2Ideal.Read.val_main_v48_eq _ _ _ _ _).trans ?_),
        g1.trans ((Cert.Reference2Ideal.Read.val_main_v49_eq _ _ _ _ _).trans ?_),
        g2.trans ((Cert.Reference2Ideal.Read.val_main_v50_eq _ _ _ _ _).trans ?_),
        g3.trans ((Cert.Reference2Ideal.Read.val_main_v52_eq _ _ _ _ _).trans ?_),
        g4.trans ((Cert.Reference2Ideal.Read.val_main_v69_eq m' c).trans ?_),
        g5.trans ((Cert.Reference2Ideal.Read.val_main_v86_eq m' c).trans ?_),
        g6.trans ((Cert.Reference2Ideal.Read.val_main_v87_eq _ _ _ _ _).trans ?_),
        g7.trans ((Cert.Reference2Ideal.Read.val_main_v89_eq _ _ _ _ _).trans ?_), k⟩
      · rw [h0, h1, h2, h3, h4]
        exact r_q m hpre c
      · rw [h0, h1, h2, h3, h4]
        exact r_kt m hpre c
      · rw [h0, h1, h2, h3, h4]
        exact r_v m hpre c
      · rw [h0, h1, h2, h3, h4]
        exact r_hq m hpre c
      · rw [h0, h1, h2, h3, h4, h5]
        exact r_ff m hpre c
      · rw [h0, h1, h2, h3, h4, h5]
        exact r_fb m hpre c
      · rw [h0, h1, h2, h3, h4]
        exact r_hi m hpre c
      · rw [h0, h1, h2, h3, h4]
        exact r_hg m hpre c) (Cert.Reference2Ideal.Value.run m' ρ')⟩

/-- The third reference runs, leaves its arguments, and ends with every counter at zero. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

open Cert.Mix in
/-- The feed-forward part's array: the version's and the reference's are the same. -/
theorem feed_forward : Cert.algebraic_Kernel3Ideal_Reference3Ideal_pre_feed_forward_is_finite (hKernel3Ideal := Cert.Kernel3Ideal.Gen.facts)
    (hReference3Ideal := Cert.Reference3Ideal.Gen.facts) (hPre_feed_forward_is_finite := Cert.Pre_feed_forward_is_finite.Gen.facts) :=
  fun m ρ m' ρ' hpre hargs => ⟨fun c => a_out m c, Cert.Mix.run m ρ,
    (θ_run _ _ _).mono (fun _ h c => by
      obtain ⟨g, k⟩ := h c
      obtain ⟨h0, h1, h2, h3, h4, h5, h6, h7, h8, h9, h10, h11, h12, h13, h14, h15⟩ := hargs c
      refine ⟨g.trans ((Cert.Reference3Ideal.Read.val_main_v84_eq _).trans ?_), k⟩
      have e := r_out m hpre c
      rw [← h0, ← h1, ← h2, ← h3, ← h4, ← h5, ← h6, ← h7, ← h8, ← h9, ← h10, ← h11, ← h12, ← h13, ← h14, ← h15] at e
      exact e) (Cert.Reference3Ideal.Value.run m' ρ')⟩

/-- Frames, the named mask, and the three value claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_logits_are_finite.Gen.facts, Cert.Pre_projection_is_finite.Gen.facts, Cert.Pre_feed_forward_is_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  IdealRules.named_const.statement Cert.KernelIdeal.κ "mask" .f32 0xF149F2CA#32 ⊥ rfl,
  fun m ρ m' ρ' hpre hargs => ⟨fun c => Cert.Na.attention m c, Cert.Na.run m ρ,
    (θ_run _ _ _).mono (fun _ h c => ⟨(h c).1.trans (results_eq m m' c (Cert.Na.finite0 m hpre c) (Cert.Na.finite1 m hpre c) (Cert.Na.finite3 m hpre c)
      (Cert.Na.finite5 m hpre c) (hargs c)), (h c).2⟩) (Cert.ReferenceIdeal.Value.run m' ρ')⟩,
  trivial, projections, trivial, feed_forward⟩

end Cert.Proof

end
